-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_sqrt_two" .f32 0x3F3504F3#32 (((Real.sqrt 2)⁻¹ : ℝ) : EReal)
  ∧ IdealRules.named_const.Statement Cert.KernelIdeal.κ "inv_sqrt_two" .bf16 0x3F35#16 (((Real.sqrt 2)⁻¹ : ℝ) : EReal)

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S32768x64 : Shape := ⟨2, ![32768, 64]⟩
abbrev S32768x8 : Shape := ⟨2, ![32768, 8]⟩
abbrev S64x136 : Shape := ⟨2, ![64, 136]⟩
abbrev S64 : Shape := ⟨1, ![64]⟩
abbrev S8x64 : Shape := ⟨2, ![8, 64]⟩
abbrev S8 : Shape := ⟨1, ![8]⟩
abbrev S8x128x128 : Shape := ⟨3, ![8, 128, 128]⟩
abbrev S8x128 : Shape := ⟨2, ![8, 128]⟩
abbrev S8x64x128 : Shape := ⟨3, ![8, 64, 128]⟩
abbrev S_ : Shape := ⟨0, ![]⟩

class Facts : Prop where
  bcast_S_S64 : S_.BroadcastsInDim S64 (![] : Fin 0 → Fin S64.rank)
  bcast_S_S8 : S_.BroadcastsInDim S8 (![] : Fin 0 → Fin S8.rank)
  bcast_S_S8x128 : S_.BroadcastsInDim S8x128 (![] : Fin 0 → Fin S8x128.rank)
  bcast_S_S8x64 : S_.BroadcastsInDim S8x64 (![] : Fin 0 → Fin S8x64.rank)

variable [Facts]

def fn {F : FTy → Type} [FloatOps F] (main_arg0 : FVec F S32768x64 .f32) (main_arg1 : FVec F S32768x64 .f32) (main_arg2 : FVec F S32768x8 .f32) (main_arg3 : FVec F S64x136 .f32) (main_arg4 : FVec F S64 .f32) (main_arg5 : FVec F S8x64 .f32) (main_arg6 : FVec F S8 .f32) (main_arg7 : FVec F S8x128x128 .f32) (main_arg8 : FVec F S8x128 .f32) (main_arg9 : FVec F S8x64x128 .f32) (main_arg10 : FVec F S8x64 .f32) : IVec S64 1 × IVec S8 1 × IVec S8x128 1 × IVec S8x64 1 :=
  let main_cst : FVec F S_ .f32 := constant S_ .f32 0x00000000#32
  let main_v0 : FVec F S64 .f32 := broadcastInDim S64 ![] bcast_S_S64 main_cst
  let main_v1 : IVec S64 1 := cmpf .oeq main_arg4 main_v0
  let main_cst_0 : FVec F S_ .f32 := constant S_ .f32 0x00000000#32
  let main_v2 : FVec F S8 .f32 := broadcastInDim S8 ![] bcast_S_S8 main_cst_0
  let main_v3 : IVec S8 1 := cmpf .oeq main_arg6 main_v2
  let main_cst_1 : FVec F S_ .f32 := constant S_ .f32 0x00000000#32
  let main_v4 : FVec F S8x128 .f32 := broadcastInDim S8x128 ![] bcast_S_S8x128 main_cst_1
  let main_v5 : IVec S8x128 1 := cmpf .oeq main_arg8 main_v4
  let main_cst_2 : FVec F S_ .f32 := constant S_ .f32 0x00000000#32
  let main_v6 : FVec F S8x64 .f32 := broadcastInDim S8x64 ![] bcast_S_S8x64 main_cst_2
  let main_v7 : IVec S8x64 1 := cmpf .oeq main_arg10 main_v6
  (main_v1, main_v3, main_v5, main_v7)
-- ==== Kernel.lean ====
abbrev S32768x64 : Shape := ⟨2, ![32768, 64]⟩
abbrev S32768x8 : Shape := ⟨2, ![32768, 8]⟩
abbrev S64x136 : Shape := ⟨2, ![64, 136]⟩
abbrev S64 : Shape := ⟨1, ![64]⟩
abbrev S8x64 : Shape := ⟨2, ![8, 64]⟩
abbrev S8 : Shape := ⟨1, ![8]⟩
abbrev S8x128x128 : Shape := ⟨3, ![8, 128, 128]⟩
abbrev S8x128 : Shape := ⟨2, ![8, 128]⟩
abbrev S8x64x128 : Shape := ⟨3, ![8, 64, 128]⟩
abbrev S136x64 : Shape := ⟨2, ![136, 64]⟩
abbrev S64x64 : Shape := ⟨2, ![64, 64]⟩
abbrev S136x128 : Shape := ⟨2, ![136, 128]⟩
abbrev S64x8 : Shape := ⟨2, ![64, 8]⟩
abbrev S_ : Shape := ⟨0, ![]⟩
abbrev S64x16 : Shape := ⟨2, ![64, 16]⟩
abbrev S128x16 : Shape := ⟨2, ![128, 16]⟩
abbrev S128x8x128 : Shape := ⟨3, ![128, 8, 128]⟩
abbrev S128x1024 : Shape := ⟨2, ![128, 1024]⟩
abbrev S8x128x64 : Shape := ⟨3, ![8, 128, 64]⟩
abbrev S4096x64 : Shape := ⟨2, ![4096, 64]⟩
abbrev S4096x8 : Shape := ⟨2, ![4096, 8]⟩
abbrev S4096x136 : Shape := ⟨2, ![4096, 136]⟩
abbrev S4096x128 : Shape := ⟨2, ![4096, 128]⟩
abbrev S4096x16 : Shape := ⟨2, ![4096, 16]⟩
abbrev S4096 : Shape := ⟨1, ![4096]⟩
abbrev S4096x1 : Shape := ⟨2, ![4096, 1]⟩
abbrev S4096x1024 : Shape := ⟨2, ![4096, 1024]⟩
abbrev S1x128x64 : Shape := ⟨3, ![1, 128, 64]⟩
abbrev S128x64 : Shape := ⟨2, ![128, 64]⟩

abbrev nBuf : Space → Nat
  | .hbm => 32
  | .vmem => 14
  | .smem => 0
  | _ => 0

abbrev bufTy : (tb : Table) → Fin (tcTables nBuf tb) → BufTy
  | .hbm, ⟨0, _⟩ => ⟨S32768x64, .f32⟩
  | .hbm, ⟨1, _⟩ => ⟨S32768x64, .f32⟩
  | .hbm, ⟨2, _⟩ => ⟨S32768x8, .f32⟩
  | .hbm, ⟨3, _⟩ => ⟨S64x136, .f32⟩
  | .hbm, ⟨4, _⟩ => ⟨S64, .f32⟩
  | .hbm, ⟨5, _⟩ => ⟨S8x64, .f32⟩
  | .hbm, ⟨6, _⟩ => ⟨S8, .f32⟩
  | .hbm, ⟨7, _⟩ => ⟨S8x128x128, .f32⟩
  | .hbm, ⟨8, _⟩ => ⟨S8x128, .f32⟩
  | .hbm, ⟨9, _⟩ => ⟨S8x64x128, .f32⟩
  | .hbm, ⟨10, _⟩ => ⟨S8x64, .f32⟩
  | .hbm, ⟨11, _⟩ => ⟨S136x64, .f32⟩
  | .hbm, ⟨12, _⟩ => ⟨S136x64, .bf16⟩
  | .hbm, ⟨13, _⟩ => ⟨S64x64, .bf16⟩
  | .hbm, ⟨14, _⟩ => ⟨S64x64, .bf16⟩
  | .hbm, ⟨15, _⟩ => ⟨S8x64, .bf16⟩
  | .hbm, ⟨16, _⟩ => ⟨S136x64, .bf16⟩
  | .hbm, ⟨17, _⟩ => ⟨S136x128, .bf16⟩
  | .hbm, ⟨18, _⟩ => ⟨S64x8, .f32⟩
  | .hbm, ⟨19, _⟩ => ⟨S64x8, .bf16⟩
  | .hbm, ⟨20, _⟩ => ⟨S_, .bf16⟩
  | .hbm, ⟨21, _⟩ => ⟨S64x8, .bf16⟩
  | .hbm, ⟨22, _⟩ => ⟨S64x16, .bf16⟩
  | .hbm, ⟨23, _⟩ => ⟨S64x16, .bf16⟩
  | .hbm, ⟨24, _⟩ => ⟨S128x16, .bf16⟩
  | .hbm, ⟨25, _⟩ => ⟨S128x8x128, .f32⟩
  | .hbm, ⟨26, _⟩ => ⟨S128x1024, .f32⟩
  | .hbm, ⟨27, _⟩ => ⟨S128x1024, .bf16⟩
  | .hbm, ⟨28, _⟩ => ⟨S8x128x64, .f32⟩
  | .hbm, ⟨29, _⟩ => ⟨S8x128x64, .bf16⟩
  | .hbm, ⟨30, _⟩ => ⟨S32768x64, .f32⟩
  | .hbm, ⟨31, _⟩ => ⟨S32768x64, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x8, .f32⟩
  | .local _ .vmem, ⟨5, _⟩ => ⟨S4096x8, .f32⟩
  | .local _ .vmem, ⟨6, _⟩ => ⟨S136x128, .bf16⟩
  | .local _ .vmem, ⟨7, _⟩ => ⟨S128x16, .bf16⟩
  | .local _ .vmem, ⟨8, _⟩ => ⟨S128x1024, .bf16⟩
  | .local _ .vmem, ⟨9, _⟩ => ⟨S8x128x64, .bf16⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S4096x64, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S136x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_sqrt_two" => some (((Real.sqrt 2)⁻¹ : ℝ) : EReal)
  | _ => none
-- ==== ReferenceIdeal.lean ====
abbrev S32768x64 : Shape := ⟨2, ![32768, 64]⟩
abbrev S32768x8 : Shape := ⟨2, ![32768, 8]⟩
abbrev S64x136 : Shape := ⟨2, ![64, 136]⟩
abbrev S64 : Shape := ⟨1, ![64]⟩
abbrev S8x64 : Shape := ⟨2, ![8, 64]⟩
abbrev S8 : Shape := ⟨1, ![8]⟩
abbrev S8x128x128 : Shape := ⟨3, ![8, 128, 128]⟩
abbrev S8x128 : Shape := ⟨2, ![8, 128]⟩
abbrev S8x64x128 : Shape := ⟨3, ![8, 64, 128]⟩
abbrev S32768x128 : Shape := ⟨2, ![32768, 128]⟩
abbrev S32768x8x128 : Shape := ⟨3, ![32768, 8, 128]⟩
abbrev S1x8x128 : Shape := ⟨3, ![1, 8, 128]⟩
abbrev S_ : Shape := ⟨0, ![]⟩
abbrev S8x64x32768 : Shape := ⟨3, ![8, 64, 32768]⟩
abbrev S32768x8x64 : Shape := ⟨3, ![32768, 8, 64]⟩
abbrev S1x8x64 : Shape := ⟨3, ![1, 8, 64]⟩
abbrev S32768x136 : Shape := ⟨2, ![32768, 136]⟩
abbrev S136x64 : Shape := ⟨2, ![136, 64]⟩
abbrev S1x64 : Shape := ⟨2, ![1, 64]⟩
abbrev S64x8 : Shape := ⟨2, ![64, 8]⟩
abbrev S1x8 : Shape := ⟨2, ![1, 8]⟩
abbrev S32768 : Shape := ⟨1, ![32768]⟩
abbrev S32768x1x1 : Shape := ⟨3, ![32768, 1, 1]⟩
abbrev S1 : Shape := ⟨1, ![1]⟩
abbrev S1x1x1 : Shape := ⟨3, ![1, 1, 1]⟩
abbrev S32768x1 : Shape := ⟨2, ![32768, 1]⟩
abbrev S32768x1x64 : Shape := ⟨3, ![32768, 1, 64]⟩

abbrev nBuf : Space → Nat
  | .hbm => 138
  | .vmem => 0
  | .smem => 0
  | _ => 0

abbrev hbmTy0_0 (i : Nat) : BufTy := match i % 128 with
  | 0 => ⟨S32768x64, .f32⟩
  | 1 => ⟨S32768x64, .f32⟩
  | 2 => ⟨S32768x8, .f32⟩
  | 3 => ⟨S64x136, .f32⟩
  | 4 => ⟨S64, .f32⟩
  | 5 => ⟨S8x64, .f32⟩
  | 6 => ⟨S8, .f32⟩
  | 7 => ⟨S8x128x128, .f32⟩
  | 8 => ⟨S8x128, .f32⟩
  | 9 => ⟨S8x64x128, .f32⟩
  | 10 => ⟨S8x64, .f32⟩
  | 11 => ⟨S32768x128, .f32⟩
  | 12 => ⟨S32768x8x128, .f32⟩
  | 13 => ⟨S1x8x128, .f32⟩
  | 14 => ⟨S32768x8x128, .f32⟩
  | 15 => ⟨S32768x8x128, .f32⟩
  | 16 => ⟨S_, .f32⟩
  | 17 => ⟨S32768x8x128, .f32⟩
  | 18 => ⟨S32768x8x128, .f32⟩
  | 19 => ⟨S32768x8x128, .f32⟩
  | 20 => ⟨S_, .f32⟩
  | 21 => ⟨S_, .f32⟩
  | 22 => ⟨S32768x8x128, .f32⟩
  | 23 => ⟨S32768x8x128, .f32⟩
  | 24 => ⟨S32768x8x128, .f32⟩
  | 25 => ⟨S32768x8x128, .f32⟩
  | 26 => ⟨S8x64x32768, .f32⟩
  | 27 => ⟨S32768x8x64, .f32⟩
  | 28 => ⟨S1x8x64, .f32⟩
  | 29 => ⟨S32768x8x64, .f32⟩
  | 30 => ⟨S32768x8x64, .f32⟩
  | 31 => ⟨S32768x136, .f32⟩
  | 32 => ⟨S136x64, .f32⟩
  | 33 => ⟨S32768x64, .f32⟩
  | 34 => ⟨S1x64, .f32⟩
  | 35 => ⟨S32768x64, .f32⟩
  | 36 => ⟨S32768x64, .f32⟩
  | 37 => ⟨S_, .f32⟩
  | 38 => ⟨S32768x64, .f32⟩
  | 39 => ⟨S32768x64, .f32⟩
  | 40 => ⟨S32768x64, .f32⟩
  | 41 => ⟨S_, .f32⟩
  | 42 => ⟨S_, .f32⟩
  | 43 => ⟨S32768x64, .f32⟩
  | 44 => ⟨S32768x64, .f32⟩
  | 45 => ⟨S32768x64, .f32⟩
  | 46 => ⟨S32768x64, .f32⟩
  | 47 => ⟨S64x8, .f32⟩
  | 48 => ⟨S32768x8, .f32⟩
  | 49 => ⟨S1x8, .f32⟩
  | 50 => ⟨S32768x8, .f32⟩
  | 51 => ⟨S32768x8, .f32⟩
  | 52 => ⟨S_, .f32⟩
  | 53 => ⟨S32768x8, .f32⟩
  | 54 => ⟨S32768x8, .f32⟩
  | 55 => ⟨S32768x8, .i32⟩
  | 56 => ⟨S_, .f32⟩
  | 57 => ⟨S_, .i32⟩
  | 58 => ⟨S32768, .f32⟩
  | 59 => ⟨S32768, .i32⟩
  | 60 => ⟨S32768x1x1, .i32⟩
  | 61 => ⟨S_, .i32⟩
  | 62 => ⟨S32768x1x1, .i32⟩
  | 63 => ⟨S32768x1x1, .i1⟩
  | 64 => ⟨S_, .i32⟩
  | 65 => ⟨S32768x1x1, .i32⟩
  | 66 => ⟨S32768x1x1, .i32⟩
  | 67 => ⟨S32768x1x1, .i32⟩
  | 68 => ⟨S1, .i32⟩
  | 69 => ⟨S_, .i32⟩
  | 70 => ⟨S32768x1x1, .i32⟩
  | 71 => ⟨S32768x1x1, .i1⟩
  | 72 => ⟨S1x1x1, .i32⟩
  | 73 => ⟨S32768x1x1, .i32⟩
  | 74 => ⟨S32768x1x1, .i1⟩
  | 75 => ⟨S32768x1x1, .i1⟩
  | 76 => ⟨S_, .i1⟩
  | 77 => ⟨S32768x1, .i1⟩
  | 78 => ⟨S32768x1x64, .f32⟩
  | 79 => ⟨S32768x1x64, .i1⟩
  | 80 => ⟨S_, .f32⟩
  | 81 => ⟨S32768x1x64, .f32⟩
  | 82 => ⟨S32768x1x64, .f32⟩
  | 83 => ⟨S32768x64, .f32⟩
  | 84 => ⟨S32768x128, .f32⟩
  | 85 => ⟨S32768x136, .f32⟩
  | 86 => ⟨S136x64, .f32⟩
  | 87 => ⟨S32768x64, .f32⟩
  | 88 => ⟨S1x64, .f32⟩
  | 89 => ⟨S32768x64, .f32⟩
  | 90 => ⟨S32768x64, .f32⟩
  | 91 => ⟨S_, .f32⟩
  | 92 => ⟨S32768x64, .f32⟩
  | 93 => ⟨S32768x64, .f32⟩
  | 94 => ⟨S32768x64, .f32⟩
  | 95 => ⟨S_, .f32⟩
  | 96 => ⟨S_, .f32⟩
  | 97 => ⟨S32768x64, .f32⟩
  | 98 => ⟨S32768x64, .f32⟩
  | 99 => ⟨S32768x64, .f32⟩
  | 100 => ⟨S32768x64, .f32⟩
  | 101 => ⟨S64x8, .f32⟩
  | 102 => ⟨S32768x8, .f32⟩
  | 103 => ⟨S1x8, .f32⟩
  | 104 => ⟨S32768x8, .f32⟩
  | 105 => ⟨S32768x8, .f32⟩
  | 106 => ⟨S_, .f32⟩
  | 107 => ⟨S32768x8, .f32⟩
  | 108 => ⟨S32768x8, .f32⟩
  | 109 => ⟨S32768x8, .i32⟩
  | 110 => ⟨S_, .f32⟩
  | 111 => ⟨S_, .i32⟩
  | 112 => ⟨S32768, .f32⟩
  | 113 => ⟨S32768, .i32⟩
  | 114 => ⟨S32768x1x1, .i32⟩
  | 115 => ⟨S_, .i32⟩
  | 116 => ⟨S32768x1x1, .i32⟩
  | 117 => ⟨S32768x1x1, .i1⟩
  | 118 => ⟨S_, .i32⟩
  | 119 => ⟨S32768x1x1, .i32⟩
  | 120 => ⟨S32768x1x1, .i32⟩
  | 121 => ⟨S32768x1x1, .i32⟩
  | 122 => ⟨S1, .i32⟩
  | 123 => ⟨S_, .i32⟩
  | 124 => ⟨S32768x1x1, .i32⟩
  | 125 => ⟨S32768x1x1, .i1⟩
  | 126 => ⟨S1x1x1, .i32⟩
  | 127 => ⟨S32768x1x1, .i32⟩
  | _ => ⟨S32768x64, .f32⟩

abbrev hbmTy0_1 (i : Nat) : BufTy := match i % 128 with
  | 0 => ⟨S32768x1x1, .i1⟩
  | 1 => ⟨S32768x1x1, .i1⟩
  | 2 => ⟨S_, .i1⟩
  | 3 => ⟨S32768x1, .i1⟩
  | 4 => ⟨S32768x1x64, .f32⟩
  | 5 => ⟨S32768x1x64, .i1⟩
  | 6 => ⟨S_, .f32⟩
  | 7 => ⟨S32768x1x64, .f32⟩
  | 8 => ⟨S32768x1x64, .f32⟩
  | 9 => ⟨S32768x64, .f32⟩
  | _ => ⟨S32768x64, .f32⟩

abbrev hbmTy (i : Nat) : BufTy := match i / 128 with
  | 0 => hbmTy0_0 i
  | 1 => hbmTy0_1 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_cst : Ref sig .tc := ⟨.hbm, 56, rfl⟩
abbrev main_call0_c : Ref sig .tc := ⟨.hbm, 57, rfl⟩
abbrev main_call0_v1_0 : Ref sig .tc := ⟨.hbm, 58, rfl⟩
abbrev main_v39 : Ref sig .tc := ⟨.hbm, 59, rfl⟩
abbrev main_v40 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_c_2 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_c_3 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_cst : Ref sig .tc := ⟨.hbm, 80, rfl⟩
abbrev main_call1_v14 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_4 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_5 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_6 : Ref sig .tc := ⟨.hbm, 106, rfl⟩
abbrev main_v63 : Ref sig .tc := ⟨.hbm, 107, rfl⟩
abbrev main_v64 : Ref sig .tc := ⟨.hbm, 108, rfl⟩
abbrev main_call2_v0 : Ref sig .tc := ⟨.hbm, 109, rfl⟩
abbrev main_call2_cst : Ref sig .tc := ⟨.hbm, 110, rfl⟩
abbrev main_call2_c : Ref sig .tc := ⟨.hbm, 111, rfl⟩
abbrev main_call2_v1_0 : Ref sig .tc := ⟨.hbm, 112, rfl⟩
abbrev main_v65 : Ref sig .tc := ⟨.hbm, 113, rfl⟩
abbrev main_v66 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_c_1 : Ref sig .tc := ⟨.hbm, 122, rfl⟩
abbrev main_call3_c_2 : Ref sig .tc := ⟨.hbm, 123, rfl⟩
abbrev main_call3_v5 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_c_3 : Ref sig .tc := ⟨.hbm, 130, rfl⟩
abbrev main_call3_v11 : Ref sig .tc := ⟨.hbm, 131, rfl⟩
abbrev main_call3_v12 : Ref sig .tc := ⟨.hbm, 132, rfl⟩
abbrev main_call3_v13 : Ref sig .tc := ⟨.hbm, 133, rfl⟩
abbrev main_call3_cst : Ref sig .tc := ⟨.hbm, 134, rfl⟩
abbrev main_call3_v14 : Ref sig .tc := ⟨.hbm, 135, rfl⟩
abbrev main_v67 : Ref sig .tc := ⟨.hbm, 136, rfl⟩
abbrev main_v68 : Ref sig .tc := ⟨.hbm, 137, rfl⟩

abbrev nD : Nat := 1
abbrev τ : Topo := Topo.v7x

variable {F : FTy → Type} [FloatOps F]
-- ==== Proof.RefOps.lean ====
/- The operations of the reference program `ReferenceIdeal`, in order, and the program's run as their effect
   on the launch contents. -/
module

public import proofs.«01_k».proof.Proof.Gen.ReferenceIdeal
public import Idealize.ShloMosaic.Lib.StableHlo.Run

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The rows of `a` and `b` side by side. -/
def joinPair (a b : (⟨S32768x64, .f32⟩ : BufTy).Contents (Elt F)) : (⟨S32768x128, .f32⟩ : BufTy).Contents (Elt F) :=
  concatenate S32768x128 1 [⟨S32768x64, a⟩, ⟨S32768x64, b⟩] concatenates_S32768x64_S32768x64_S32768x128_d1

/-- The rows of the pair with the position's rows beside them. -/
def joinPos (a : (⟨S32768x128, .f32⟩ : BufTy).Contents (Elt F)) (b : (⟨S32768x8, .f32⟩ : BufTy).Contents (Elt F)) :
    (⟨S32768x136, .f32⟩ : BufTy).Contents (Elt F) :=
  concatenate S32768x136 1 [⟨S32768x128, a⟩, ⟨S32768x8, b⟩] concatenates_S32768x128_S32768x8_S32768x136_d1

/-- The operations of the eight experts: their first product, the gelu, the second product. -/
abbrev expertOps : List (HloOp τ sig (Elt F)) :=
  [ binary main_arg0 main_arg1 main_v0 joinPair,
    binary main_v0 main_arg7 main_v1 ((fun l r => Host.dotGeneral dot_S32768x128_S8x128x128_S32768x8x128_1_2_0_01_n_n none l r) : (⟨S32768x128, .f32⟩ : BufTy).Contents (Elt F) → (⟨S8x128x128, .f32⟩ : BufTy).Contents (Elt F) → (⟨S32768x8x128, .f32⟩ : BufTy).Contents (Elt F)),
    unary main_arg8 main_v2 (broadcastInDim S1x8x128 ![1, 2] bcast_S8x128_S1x8x128_1_2 : (⟨S8x128, .f32⟩ : BufTy).Contents (Elt F) → (⟨S1x8x128, .f32⟩ : BufTy).Contents (Elt F)),
    unary main_v2 main_v3 (broadcastInDim S32768x8x128 ![0, 1, 2] bcast_S1x8x128_S32768x8x128_0_1_2 : (⟨S1x8x128, .f32⟩ : BufTy).Contents (Elt F) → (⟨S32768x8x128, .f32⟩ : BufTy).Contents (Elt F)),
    binary main_v1 main_v3 main_v4 (addf : (⟨S32768x8x128, .f32⟩ : BufTy).Contents (Elt F) → (⟨S32768x8x128, .f32⟩ : BufTy).Contents (Elt F) → (⟨S32768x8x128, .f32⟩ : BufTy).Contents (Elt F)),
    nullary main_cst (constant S_ .f32 0x3F000000#32),
    unary main_cst main_v5 (broadcastInDim S32768x8x128 ![] bcast_S_S32768x8x128 : (⟨S_, .f32⟩ : BufTy).Contents (Elt F) → (⟨S32768x8x128, .f32⟩ : BufTy).Contents (Elt F)),
    binary main_v5 main_v4 main_v6 (mulf : (⟨S32768x8x128, .f32⟩ : BufTy).Contents (Elt F) → (⟨S32768x8x128, .f32⟩ : BufTy).Contents (Elt F) → (⟨S32768x8x128, .f32⟩ : BufTy).Contents (Elt F)),
    unary main_v4 main_v7 (Host.negf : (⟨S32768x8x128, .f32⟩ : BufTy).Contents (Elt F) → (⟨S32768x8x128, .f32⟩ : BufTy).Contents (Elt F)),
    nullary main_cst_0 (constant S_ .f32 0x40000000#32),
    unary main_cst_0 main_v8 (Host.sqrt : (⟨S_, .f32⟩ : BufTy).Contents (Elt F) → (⟨S_, .f32⟩ : BufTy).Contents (Elt F)),
    unary main_v8 main_v9 (broadcastInDim S32768x8x128 ![] bcast_S_S32768x8x128 : (⟨S_, .f32⟩ : BufTy).Contents (Elt F) → (⟨S32768x8x128, .f32⟩ : BufTy).Contents (Elt F)),
    binary main_v7 main_v9 main_v10 (Host.divf : (⟨S32768x8x128, .f32⟩ : BufTy).Contents (Elt F) → (⟨S32768x8x128, .f32⟩ : BufTy).Contents (Elt F) → (⟨S32768x8x128, .f32⟩ : BufTy).Contents (Elt F)),
    unary main_v10 main_v11 (Host.erfc : (⟨S32768x8x128, .f32⟩ : BufTy).Contents (Elt F) → (⟨S32768x8x128, .f32⟩ : BufTy).Contents (Elt F)),
    binary main_v6 main_v11 main_v12 (mulf : (⟨S32768x8x128, .f32⟩ : BufTy).Contents (Elt F) → (⟨S32768x8x128, .f32⟩ : BufTy).Contents (Elt F) → (⟨S32768x8x128, .f32⟩ : BufTy).Contents (Elt F)),
    binary main_arg9 main_v12 main_v13 ((fun l r => Host.dotGeneral dot_S8x64x128_S32768x8x128_S8x64x32768_2_2_1_0_0_1 none l r) : (⟨S8x64x128, .f32⟩ : BufTy).Contents (Elt F) → (⟨S32768x8x128, .f32⟩ : BufTy).Contents (Elt F) → (⟨S8x64x32768, .f32⟩ : BufTy).Contents (Elt F)),
    unary main_v13 main_v14 ((transpose S32768x8x64 [2, 0, 1] · transposes_S8x64x32768_S32768x8x64_2_0_1) : (⟨S8x64x32768, .f32⟩ : BufTy).Contents (Elt F) → (⟨S32768x8x64, .f32⟩ : BufTy).Contents (Elt F)),
    unary main_arg10 main_v15 (broadcastInDim S1x8x64 ![1, 2] bcast_S8x64_S1x8x64_1_2 : (⟨S8x64, .f32⟩ : BufTy).Contents (Elt F) → (⟨S1x8x64, .f32⟩ : BufTy).Contents (Elt F)),
    unary main_v15 main_v16 (broadcastInDim S32768x8x64 ![0, 1, 2] bcast_S1x8x64_S32768x8x64_0_1_2 : (⟨S1x8x64, .f32⟩ : BufTy).Contents (Elt F) → (⟨S32768x8x64, .f32⟩ : BufTy).Contents (Elt F)),
    binary main_v14 main_v16 main_v17 (addf : (⟨S32768x8x64, .f32⟩ : BufTy).Contents (Elt F) → (⟨S32768x8x64, .f32⟩ : BufTy).Contents (Elt F) → (⟨S32768x8x64, .f32⟩ : BufTy).Contents (Elt F)) ]

/-- The operations of the router on the pair as given. -/
abbrev routeOps : List (HloOp τ sig (Elt F)) :=
  [ binary main_v0 main_arg2 main_v18 joinPos,
    unary main_arg3 main_v19 ((transpose S136x64 [1, 0] · transposes_S64x136_S136x64_1_0) : (⟨S64x136, .f32⟩ : BufTy).Contents (Elt F) → (⟨S136x64, .f32⟩ : BufTy).Contents (Elt F)),
    binary main_v18 main_v19 main_v20 ((fun l r => Host.dotGeneral dot_S32768x136_S136x64_S32768x64_1_0_0_1_n_n none l r) : (⟨S32768x136, .f32⟩ : BufTy).Contents (Elt F) → (⟨S136x64, .f32⟩ : BufTy).Contents (Elt F) → (⟨S32768x64, .f32⟩ : BufTy).Contents (Elt F)),
    unary main_arg4 main_v21 (broadcastInDim S1x64 ![1] bcast_S64_S1x64_1 : (⟨S64, .f32⟩ : BufTy).Contents (Elt F) → (⟨S1x64, .f32⟩ : BufTy).Contents (Elt F)),
    unary main_v21 main_v22 (broadcastInDim S32768x64 ![0, 1] bcast_S1x64_S32768x64_0_1 : (⟨S1x64, .f32⟩ : BufTy).Contents (Elt F) → (⟨S32768x64, .f32⟩ : BufTy).Contents (Elt F)),
    binary main_v20 main_v22 main_v23 (addf : (⟨S32768x64, .f32⟩ : BufTy).Contents (Elt F) → (⟨S32768x64, .f32⟩ : BufTy).Contents (Elt F) → (⟨S32768x64, .f32⟩ : BufTy).Contents (Elt F)),
    nullary main_cst_1 (constant S_ .f32 0x3F000000#32),
    unary main_cst_1 main_v24 (broadcastInDim S32768x64 ![] bcast_S_S32768x64 : (⟨S_, .f32⟩ : BufTy).Contents (Elt F) → (⟨S32768x64, .f32⟩ : BufTy).Contents (Elt F)),
    binary main_v24 main_v23 main_v25 (mulf : (⟨S32768x64, .f32⟩ : BufTy).Contents (Elt F) → (⟨S32768x64, .f32⟩ : BufTy).Contents (Elt F) → (⟨S32768x64, .f32⟩ : BufTy).Contents (Elt F)),
    unary main_v23 main_v26 (Host.negf : (⟨S32768x64, .f32⟩ : BufTy).Contents (Elt F) → (⟨S32768x64, .f32⟩ : BufTy).Contents (Elt F)),
    nullary main_cst_2 (constant S_ .f32 0x40000000#32),
    unary main_cst_2 main_v27 (Host.sqrt : (⟨S_, .f32⟩ : BufTy).Contents (Elt F) → (⟨S_, .f32⟩ : BufTy).Contents (Elt F)),
    unary main_v27 main_v28 (broadcastInDim S32768x64 ![] bcast_S_S32768x64 : (⟨S_, .f32⟩ : BufTy).Contents (Elt F) → (⟨S32768x64, .f32⟩ : BufTy).Contents (Elt F)),
    binary main_v26 main_v28 main_v29 (Host.divf : (⟨S32768x64, .f32⟩ : BufTy).Contents (Elt F) → (⟨S32768x64, .f32⟩ : BufTy).Contents (Elt F) → (⟨S32768x64, .f32⟩ : BufTy).Contents (Elt F)),
    unary main_v29 main_v30 (Host.erfc : (⟨S32768x64, .f32⟩ : BufTy).Contents (Elt F) → (⟨S32768x64, .f32⟩ : BufTy).Contents (Elt F)),
    binary main_v25 main_v30 main_v31 (mulf : (⟨S32768x64, .f32⟩ : BufTy).Contents (Elt F) → (⟨S32768x64, .f32⟩ : BufTy).Contents (Elt F) → (⟨S32768x64, .f32⟩ : BufTy).Contents (Elt F)),
    unary main_arg5 main_v32 ((transpose S64x8 [1, 0] · transposes_S8x64_S64x8_1_0) : (⟨S8x64, .f32⟩ : BufTy).Contents (Elt F) → (⟨S64x8, .f32⟩ : BufTy).Contents (Elt F)),
    binary main_v31 main_v32 main_v33 ((fun l r => Host.dotGeneral dot_S32768x64_S64x8_S32768x8_1_0_0_1_n_n none l r) : (⟨S32768x64, .f32⟩ : BufTy).Contents (Elt F) → (⟨S64x8, .f32⟩ : BufTy).Contents (Elt F) → (⟨S32768x8, .f32⟩ : BufTy).Contents (Elt F)),
    unary main_arg6 main_v34 (broadcastInDim S1x8 ![1] bcast_S8_S1x8_1 : (⟨S8, .f32⟩ : BufTy).Contents (Elt F) → (⟨S1x8, .f32⟩ : BufTy).Contents (Elt F)),
    unary main_v34 main_v35 (broadcastInDim S32768x8 ![0, 1] bcast_S1x8_S32768x8_0_1 : (⟨S1x8, .f32⟩ : BufTy).Contents (Elt F) → (⟨S32768x8, .f32⟩ : BufTy).Contents (Elt F)),
    binary main_v33 main_v35 main_v36 (addf : (⟨S32768x8, .f32⟩ : BufTy).Contents (Elt F) → (⟨S32768x8, .f32⟩ : BufTy).Contents (Elt F) → (⟨S32768x8, .f32⟩ : BufTy).Contents (Elt F)),
    nullary main_cst_3 (constant S_ .f32 0x3F000000#32),
    unary main_cst_3 main_v37 (broadcastInDim S32768x8 ![] bcast_S_S32768x8 : (⟨S_, .f32⟩ : BufTy).Contents (Elt F) → (⟨S32768x8, .f32⟩ : BufTy).Contents (Elt F)),
    binary main_v36 main_v37 main_v38 (Host.divf : (⟨S32768x8, .f32⟩ : BufTy).Contents (Elt F) → (⟨S32768x8, .f32⟩ : BufTy).Contents (Elt F) → (⟨S32768x8, .f32⟩ : BufTy).Contents (Elt F)) ]

/-- The operations of the router on the flipped pair. -/
abbrev flipOps : List (HloOp τ sig (Elt F)) :=
  [ binary main_arg1 main_arg0 main_v43 joinPair,
    binary main_v43 main_arg2 main_v44 joinPos,
    unary main_arg3 main_v45 ((transpose S136x64 [1, 0] · transposes_S64x136_S136x64_1_0) : (⟨S64x136, .f32⟩ : BufTy).Contents (Elt F) → (⟨S136x64, .f32⟩ : BufTy).Contents (Elt F)),
    binary main_v44 main_v45 main_v46 ((fun l r => Host.dotGeneral dot_S32768x136_S136x64_S32768x64_1_0_0_1_n_n none l r) : (⟨S32768x136, .f32⟩ : BufTy).Contents (Elt F) → (⟨S136x64, .f32⟩ : BufTy).Contents (Elt F) → (⟨S32768x64, .f32⟩ : BufTy).Contents (Elt F)),
    unary main_arg4 main_v47 (broadcastInDim S1x64 ![1] bcast_S64_S1x64_1 : (⟨S64, .f32⟩ : BufTy).Contents (Elt F) → (⟨S1x64, .f32⟩ : BufTy).Contents (Elt F)),
    unary main_v47 main_v48 (broadcastInDim S32768x64 ![0, 1] bcast_S1x64_S32768x64_0_1 : (⟨S1x64, .f32⟩ : BufTy).Contents (Elt F) → (⟨S32768x64, .f32⟩ : BufTy).Contents (Elt F)),
    binary main_v46 main_v48 main_v49 (addf : (⟨S32768x64, .f32⟩ : BufTy).Contents (Elt F) → (⟨S32768x64, .f32⟩ : BufTy).Contents (Elt F) → (⟨S32768x64, .f32⟩ : BufTy).Contents (Elt F)),
    nullary main_cst_4 (constant S_ .f32 0x3F000000#32),
    unary main_cst_4 main_v50 (broadcastInDim S32768x64 ![] bcast_S_S32768x64 : (⟨S_, .f32⟩ : BufTy).Contents (Elt F) → (⟨S32768x64, .f32⟩ : BufTy).Contents (Elt F)),
    binary main_v50 main_v49 main_v51 (mulf : (⟨S32768x64, .f32⟩ : BufTy).Contents (Elt F) → (⟨S32768x64, .f32⟩ : BufTy).Contents (Elt F) → (⟨S32768x64, .f32⟩ : BufTy).Contents (Elt F)),
    unary main_v49 main_v52 (Host.negf : (⟨S32768x64, .f32⟩ : BufTy).Contents (Elt F) → (⟨S32768x64, .f32⟩ : BufTy).Contents (Elt F)),
    nullary main_cst_5 (constant S_ .f32 0x40000000#32),
    unary main_cst_5 main_v53 (Host.sqrt : (⟨S_, .f32⟩ : BufTy).Contents (Elt F) → (⟨S_, .f32⟩ : BufTy).Contents (Elt F)),
    unary main_v53 main_v54 (broadcastInDim S32768x64 ![] bcast_S_S32768x64 : (⟨S_, .f32⟩ : BufTy).Contents (Elt F) → (⟨S32768x64, .f32⟩ : BufTy).Contents (Elt F)),
    binary main_v52 main_v54 main_v55 (Host.divf : (⟨S32768x64, .f32⟩ : BufTy).Contents (Elt F) → (⟨S32768x64, .f32⟩ : BufTy).Contents (Elt F) → (⟨S32768x64, .f32⟩ : BufTy).Contents (Elt F)),
    unary main_v55 main_v56 (Host.erfc : (⟨S32768x64, .f32⟩ : BufTy).Contents (Elt F) → (⟨S32768x64, .f32⟩ : BufTy).Contents (Elt F)),
    binary main_v51 main_v56 main_v57 (mulf : (⟨S32768x64, .f32⟩ : BufTy).Contents (Elt F) → (⟨S32768x64, .f32⟩ : BufTy).Contents (Elt F) → (⟨S32768x64, .f32⟩ : BufTy).Contents (Elt F)),
    unary main_arg5 main_v58 ((transpose S64x8 [1, 0] · transposes_S8x64_S64x8_1_0) : (⟨S8x64, .f32⟩ : BufTy).Contents (Elt F) → (⟨S64x8, .f32⟩ : BufTy).Contents (Elt F)),
    binary main_v57 main_v58 main_v59 ((fun l r => Host.dotGeneral dot_S32768x64_S64x8_S32768x8_1_0_0_1_n_n none l r) : (⟨S32768x64, .f32⟩ : BufTy).Contents (Elt F) → (⟨S64x8, .f32⟩ : BufTy).Contents (Elt F) → (⟨S32768x8, .f32⟩ : BufTy).Contents (Elt F)),
    unary main_arg6 main_v60 (broadcastInDim S1x8 ![1] bcast_S8_S1x8_1 : (⟨S8, .f32⟩ : BufTy).Contents (Elt F) → (⟨S1x8, .f32⟩ : BufTy).Contents (Elt F)),
    unary main_v60 main_v61 (broadcastInDim S32768x8 ![0, 1] bcast_S1x8_S32768x8_0_1 : (⟨S1x8, .f32⟩ : BufTy).Contents (Elt F) → (⟨S32768x8, .f32⟩ : BufTy).Contents (Elt F)),
    binary main_v59 main_v61 main_v62 (addf : (⟨S32768x8, .f32⟩ : BufTy).Contents (Elt F) → (⟨S32768x8, .f32⟩ : BufTy).Contents (Elt F) → (⟨S32768x8, .f32⟩ : BufTy).Contents (Elt F)),
    nullary main_cst_6 (constant S_ .f32 0x3F000000#32),
    unary main_cst_6 main_v63 (broadcastInDim S32768x8 ![] bcast_S_S32768x8 : (⟨S_, .f32⟩ : BufTy).Contents (Elt F) → (⟨S32768x8, .f32⟩ : BufTy).Contents (Elt F)),
    binary main_v62 main_v63 main_v64 (Host.divf : (⟨S32768x8, .f32⟩ : BufTy).Contents (Elt F) → (⟨S32768x8, .f32⟩ : BufTy).Contents (Elt F) → (⟨S32768x8, .f32⟩ : BufTy).Contents (Elt F)) ]

/-- The operations of one call of argmax. -/
abbrev argmaxOps (arg0 : TRef sig ⟨S32768x8, .f32⟩) (φ : fn_argmax.Bufs) : List (HloOp τ sig (Elt F)) :=
  [ TRef.nullary φ.v0 (iotaInDim S32768x8 32 1),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S32768x8_S32768_d1 h_S_ j).1),
    TRef.quaternary arg0 φ.v0 φ.cst φ.c φ.v1_1 (fun x y u v j => (Host.argReduce reducer_argmax_f32_i32 x y u v reducesTo_S32768x8_S32768_d1 h_S_ j).2) ]

/-- The operations of one call of take_along_axis. -/
abbrev takeOps (arg0 : TRef sig ⟨S32768x8x64, .f32⟩) (arg1 : TRef sig ⟨S32768x1x1, .i32⟩) (φ : fn_take_along_axis.Bufs) : List (HloOp τ sig (Elt F)) :=
  [ TRef.nullary φ.c (constantI S_ 32 0#32),
    TRef.unary φ.c φ.v0 (broadcastInDim S32768x1x1 ![] bcast_S_S32768x1x1),
    TRef.binary arg1 φ.v0 φ.v1 (cmpi .slt),
    TRef.nullary φ.c_0 (constantI S_ 32 8#32),
    TRef.unary φ.c_0 φ.v2 (broadcastInDim S32768x1x1 ![] bcast_S_S32768x1x1),
    TRef.binary arg1 φ.v2 φ.v3 addi,
    TRef.ternary φ.v1 φ.v3 arg1 φ.v4 select,
    TRef.nullary φ.c_1 (constantI S1 32 7#32),
    TRef.nullary φ.c_2 (constantI S_ 32 0#32),
    TRef.unary φ.c_2 φ.v5 (broadcastInDim S32768x1x1 ![] bcast_S_S32768x1x1),
    TRef.binary φ.v4 φ.v5 φ.v6 (cmpi .sge),
    TRef.unary φ.c_1 φ.v7 (broadcastInDim S1x1x1 ![2] bcast_S1_S1x1x1_2),
    TRef.unary φ.v7 φ.v8 (broadcastInDim S32768x1x1 ![0, 1, 2] bcast_S1x1x1_S32768x1x1_0_1_2),
    TRef.binary φ.v4 φ.v8 φ.v9 (cmpi .sle),
    TRef.binary φ.v6 φ.v9 φ.v10 andi,
    TRef.nullary φ.c_3 (constantI S_ 1 1#1),
    TRef.binary φ.v10 φ.c_3 φ.v11 (fun x v => Host.reduce IntOp.andi x v reducesTo_S32768x1x1_S32768x1_d2 h_S_),
    TRef.binary arg0 φ.v4 φ.v12 (fun x i => Host.gather gather_S32768x8x64_S32768x1x1_S32768x1x64_2_1_0_0_1_2_1164 x i),
    TRef.unary φ.v11 φ.v13 (broadcastInDim S32768x1x64 ![0, 1] bcast_S32768x1_S32768x1x64_0_1),
    TRef.nullary φ.cst (constant S_ .f32 0x7FC00000#32),
    TRef.unary φ.cst φ.v14 (broadcastInDim S32768x1x64 ![] bcast_S_S32768x1x64),
    TRef.ternary φ.v13 φ.v12 φ.v14 φ.v15 select ]

/-- The rest of the first route: the arg-max, and the expert's row taken at it. -/
abbrev pickOps : List (HloOp τ sig (Elt F)) :=
  argmaxOps (.of main_v38) main_call0 ++ [unary main_v39 main_v40 (broadcastInDim S32768x1x1 ![0] bcast_S32768_S32768x1x1_0 : (⟨S32768, .i32⟩ : BufTy).Contents (Elt F) → (⟨S32768x1x1, .i32⟩ : BufTy).Contents (Elt F))] ++ takeOps (.of main_v17) (.of main_v40) main_call1 ++ [reshape main_v41 main_v42 (rfl : (.f32 : EltTy) = .f32) shapeCasts_S32768x1x64_S32768x64]

/-- The rest of the second route. -/
abbrev pickFlipOps : List (HloOp τ sig (Elt F)) :=
  argmaxOps (.of main_v64) main_call2 ++ [unary main_v65 main_v66 (broadcastInDim S32768x1x1 ![0] bcast_S32768_S32768x1x1_0 : (⟨S32768, .i32⟩ : BufTy).Contents (Elt F) → (⟨S32768x1x1, .i32⟩ : BufTy).Contents (Elt F))] ++ takeOps (.of main_v17) (.of main_v66) main_call3 ++ [reshape main_v67 main_v68 (rfl : (.f32 : EltTy) = .f32) shapeCasts_S32768x1x64_S32768x64]

/-- Every operation of the reference, in order. -/
abbrev ops : List (HloOp τ sig (Elt F)) := expertOps ++ (routeOps ++ (pickOps ++ (flipOps ++ pickFlipOps)))

set_option maxRecDepth 8192 in
set_option maxHeartbeats 4000000 in
/-- The reference's program is its list of operations, in order. -/
theorem main_eq (c : Dev nD) : main (F := F) c = seq ops := rfl

/-- The program has no scoped buffers. -/
theorem scopedRefs_eq : (Finset.univ.filter fun b : Ref sig .tc => b.isScoped) = ∅ := by decide
/-- The program has no scoped semaphores. -/
theorem scopedSems_eq : (Finset.univ.filter fun sm : SemLoc sig => sm.isScoped .tc) = ∅ := by decide

/-- Running two lists of operations one after the other. -/
theorem after_append (A B : List (HloOp τ sig (Elt F))) (σ : Valuation τ sig (Elt F)) :
    after (A ++ B) σ = after B (after A σ) := by
  induction A generalizing σ with
  | nil => rfl
  | cons op A ih => exact ih _

set_option maxRecDepth 8192 in
/-- Each operation touches the program's own buffers only. -/
theorem ops_sub : (ops : List (HloOp τ sig (Elt F))).Forall fun op => op.bufs ⊆ tcRefs τ sig := by
  simp only [ops, pickOps, pickFlipOps, argmaxOps, takeOps, TRef.binary, TRef.nullary, TRef.ternary, TRef.unary,
    TRef.quaternary, List.forall_append, List.Forall, nullary_bufs_sub, unary_bufs_sub, binary_bufs_sub,
    ternary_bufs_sub, quaternary_bufs_sub, reshape_bufs_sub, and_self]

/-- Every execution ends with each buffer at what the operations leave there. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (fun b => m (c, b)) (Proc.devRef .tc b) :=
  run_seq scopedRefs_eq scopedSems_eq defs main (fun _ => ops) main_eq (fun _ => ops_sub) m ρ

end Cert.ReferenceIdeal.Run

end
-- ==== Proof.RefRun.lean ====
/- What the reference program leaves: its two results as terms of the arguments' launch contents. -/
module

public import proofs.«01_k».proof.Proof.RefOps

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The contents of an f32 array of a shape. -/
abbrev Arr (F : FTy → Type) (s : Shape) : Type := (⟨s, .f32⟩ : BufTy).Contents (Elt F)
/-- The contents of an i32 array of a shape. -/
abbrev ArrI (F : FTy → Type) (s : Shape) : Type := (⟨s, .i32⟩ : BufTy).Contents (Elt F)

/-- The gelu as the reference spells it, on an array of any shape. -/
def geluArr {s : Shape} (h : S_.BroadcastsInDim s (![] : Fin 0 → Fin s.rank)) (x : Arr F s) : Arr F s :=
  mulf (mulf (broadcastInDim s ![] h (constant S_ .f32 0x3F000000#32 : Arr F S_)) x)
    (Host.erfc (Host.divf (Host.negf x) (broadcastInDim s ![] h (Host.sqrt (constant S_ .f32 0x40000000#32 : Arr F S_)))))

/-- The eight experts' rows. -/
def expertArr (a b : Arr F S32768x64) (w1 : Arr F S8x128x128) (b1 : Arr F S8x128) (w2 : Arr F S8x64x128)
    (b2 : Arr F S8x64) : Arr F S32768x8x64 :=
  addf (transpose S32768x8x64 [2, 0, 1]
      (Host.dotGeneral dot_S8x64x128_S32768x8x128_S8x64x32768_2_2_1_0_0_1 none w2
        (geluArr bcast_S_S32768x8x128
          (addf (Host.dotGeneral dot_S32768x128_S8x128x128_S32768x8x128_1_2_0_01_n_n none (joinPair a b) w1)
            (broadcastInDim S32768x8x128 ![0, 1, 2] bcast_S1x8x128_S32768x8x128_0_1_2
              (broadcastInDim S1x8x128 ![1, 2] bcast_S8x128_S1x8x128_1_2 b1)))))
      transposes_S8x64x32768_S32768x8x64_2_0_1)
    (broadcastInDim S32768x8x64 ![0, 1, 2] bcast_S1x8x64_S32768x8x64_0_1_2
      (broadcastInDim S1x8x64 ![1, 2] bcast_S8x64_S1x8x64_1_2 b2))

/-- The router's scores of the pair `(a, b)` at position `p`. -/
def routeArr (a b : Arr F S32768x64) (p : Arr F S32768x8) (w1 : Arr F S64x136) (b1 : Arr F S64) (w2 : Arr F S8x64)
    (b2 : Arr F S8) : Arr F S32768x8 :=
  Host.divf
    (addf (Host.dotGeneral dot_S32768x64_S64x8_S32768x8_1_0_0_1_n_n none
        (geluArr bcast_S_S32768x64
          (addf (Host.dotGeneral dot_S32768x136_S136x64_S32768x64_1_0_0_1_n_n none (joinPos (joinPair a b) p)
              (transpose S136x64 [1, 0] w1 transposes_S64x136_S136x64_1_0))
            (broadcastInDim S32768x64 ![0, 1] bcast_S1x64_S32768x64_0_1 (broadcastInDim S1x64 ![1] bcast_S64_S1x64_1 b1))))
        (transpose S64x8 [1, 0] w2 transposes_S8x64_S64x8_1_0))
      (broadcastInDim S32768x8 ![0, 1] bcast_S1x8_S32768x8_0_1 (broadcastInDim S1x8 ![1] bcast_S8_S1x8_1 b2)))
    (broadcastInDim S32768x8 ![] bcast_S_S32768x8 (constant S_ .f32 0x3F000000#32))

/-- The position of the largest score of each row, by the reference's fold over (score, position) pairs. -/
def argmaxArr (x : Arr F S32768x8) : ArrI F S32768 := fun j =>
  (Host.argReduce reducer_argmax_f32_i32 x (iotaInDim S32768x8 32 1) (constant S_ .f32 0xFF800000#32)
    (constantI S_ 32 0#32) reducesTo_S32768x8_S32768_d1 h_S_ j).2

/-- The index of each row with a negative one counted from the end. -/
def wrapArr (i : ArrI F S32768x1x1) : ArrI F S32768x1x1 :=
  select (cmpi .slt i (broadcastInDim S32768x1x1 ![] bcast_S_S32768x1x1 (constantI S_ 32 0#32)))
    (addi i (broadcastInDim S32768x1x1 ![] bcast_S_S32768x1x1 (constantI S_ 32 8#32))) i

/-- Each row's entry of `x` at its index: the gathered row where the index is in range, a NaN elsewhere. -/
def takeArr (x : Arr F S32768x8x64) (i : ArrI F S32768x1x1) : Arr F S32768x1x64 :=
  select
    (broadcastInDim S32768x1x64 ![0, 1] bcast_S32768x1_S32768x1x64_0_1
      (Host.reduce IntOp.andi
        (andi (cmpi .sge (wrapArr (F := F) i) (broadcastInDim S32768x1x1 ![] bcast_S_S32768x1x1 (constantI S_ 32 0#32)))
          (cmpi .sle (wrapArr (F := F) i) (broadcastInDim S32768x1x1 ![0, 1, 2] bcast_S1x1x1_S32768x1x1_0_1_2
            (broadcastInDim S1x1x1 ![2] bcast_S1_S1x1x1_2 (constantI S1 32 7#32)))))
        (constantI S_ 1 1#1) reducesTo_S32768x1x1_S32768x1_d2 h_S_))
    (Host.gather gather_S32768x8x64_S32768x1x1_S32768x1x64_2_1_0_0_1_2_1164 x (wrapArr (F := F) i))
    (broadcastInDim S32768x1x64 ![] bcast_S_S32768x1x64 (constant S_ .f32 0x7FC00000#32))

/-- A result: each row's expert, the one of the largest score. -/
def pickArr (x : Arr F S32768x8x64) (l : Arr F S32768x8) : Arr F S32768x64 :=
  shapeCast _ (takeArr x (broadcastInDim S32768x1x1 ![0] bcast_S32768_S32768x1x1_0 (argmaxArr l)))
    shapeCasts_S32768x1x64_S32768x64

/-- The buffers `expertOps` writes, in order. -/
abbrev expertRefs : List (Ref sig .tc) :=
  [main_v0, main_v1, main_v2, main_v3, main_v4, main_cst, main_v5, main_v6, main_v7, main_cst_0, main_v8,
   main_v9, main_v10, main_v11, main_v12, main_v13, main_v14, main_v15, main_v16, main_v17]

/-- The buffers `routeOps` writes, in order. -/
abbrev routeRefs : List (Ref sig .tc) :=
  [main_v18, main_v19, main_v20, main_v21, main_v22, main_v23, main_cst_1, main_v24, main_v25, main_v26,
   main_cst_2, main_v27, main_v28, main_v29, main_v30, main_v31, main_v32, main_v33, main_v34, main_v35,
   main_v36, main_cst_3, main_v37, main_v38]

/-- The buffers `flipOps` writes, in order. -/
abbrev flipRefs : List (Ref sig .tc) :=
  [main_v43, main_v44, main_v45, main_v46, main_v47, main_v48, main_v49, main_cst_4, main_v50, main_v51,
   main_v52, main_cst_5, main_v53, main_v54, main_v55, main_v56, main_v57, main_v58, main_v59, main_v60,
   main_v61, main_v62, main_cst_6, main_v63, main_v64]

/-- The buffers `pickOps` writes, in order. -/
abbrev pickRefs : List (Ref sig .tc) :=
  [main_call0_v0, main_call0_cst, main_call0_c, main_call0_v1_0, main_v39, main_v40, main_call1_c, main_call1_v0,
   main_call1_v1, main_call1_c_0, main_call1_v2, main_call1_v3, main_call1_v4, main_call1_c_1, main_call1_c_2,
   main_call1_v5, main_call1_v6, main_call1_v7, main_call1_v8, main_call1_v9, main_call1_v10, main_call1_c_3,
   main_call1_v11, main_call1_v12, main_call1_v13, main_call1_cst, main_call1_v14, main_v41, main_v42]

/-- The buffers `pickFlipOps` writes, in order. -/
abbrev pickFlipRefs : List (Ref sig .tc) :=
  [main_call2_v0, main_call2_cst, main_call2_c, main_call2_v1_0, main_v65, main_v66, main_call3_c, main_call3_v0,
   main_call3_v1, main_call3_c_0, main_call3_v2, main_call3_v3, main_call3_v4, main_call3_c_1, main_call3_c_2,
   main_call3_v5, main_call3_v6, main_call3_v7, main_call3_v8, main_call3_v9, main_call3_v10, main_call3_c_3,
   main_call3_v11, main_call3_v12, main_call3_v13, main_call3_cst, main_call3_v14, main_v67, main_v68]

section Segments

variable (σ : Valuation τ sig (Elt F))

set_option maxRecDepth 8192
set_option maxHeartbeats 4000000

/-- After the first stage `main_v17` holds the experts' outputs. -/
theorem expertOps_v17 : after expertOps σ (Proc.devRef .tc main_v17)
    = expertArr (σ main_arg0) (σ main_arg1) (σ main_arg7) (σ main_arg8) (σ main_arg9) (σ main_arg10) := by
  after_results_simp <;> rfl

/-- After the first stage `main_v0` holds the pair. -/
theorem expertOps_v0 : after expertOps σ (Proc.devRef .tc main_v0) = joinPair (σ main_arg0) (σ main_arg1) := by
  after_results_simp <;> rfl

/-- After the second stage `main_v38` holds the scores of the pair. -/
theorem routeOps_v38 (a b : Arr F S32768x64) (h : σ main_v0 = joinPair a b) :
    after routeOps σ (Proc.devRef .tc main_v38)
      = routeArr a b (σ main_arg2) (σ main_arg3) (σ main_arg4) (σ main_arg5) (σ main_arg6) := by
  after_results_simp <;> (simp only [h] ; rfl)

/-- After the fourth stage `main_v64` holds the scores of the flipped pair. -/
theorem flipOps_v64 : after flipOps σ (Proc.devRef .tc main_v64)
    = routeArr (σ main_arg1) (σ main_arg0) (σ main_arg2) (σ main_arg3) (σ main_arg4) (σ main_arg5) (σ main_arg6) := by
  after_results_simp <;> rfl

/-- After the third stage `main_v42` holds the experts' outputs picked by the scores. -/
theorem pickOps_v42 : after pickOps σ (Proc.devRef .tc main_v42) = pickArr (σ main_v17) (σ main_v38) := by
  simp only [pickOps, argmaxOps, takeOps, TRef.binary, TRef.nullary, TRef.ternary, TRef.unary, TRef.quaternary,
    TRef.toBuf, TRef.ofBuf, cast_eq, List.cons_append, List.nil_append]
  after_results_simp <;> rfl

/-- After the fifth stage `main_v68` holds the experts' outputs picked by the flipped pair's scores. -/
theorem pickFlipOps_v68 : after pickFlipOps σ (Proc.devRef .tc main_v68) = pickArr (σ main_v17) (σ main_v64) := by
  simp only [pickFlipOps, argmaxOps, takeOps, TRef.binary, TRef.nullary, TRef.ternary, TRef.unary, TRef.quaternary,
    TRef.toBuf, TRef.ofBuf, cast_eq, List.cons_append, List.nil_append]
  after_results_simp <;> rfl

/-- The first stage keeps a buffer it doesn't write. -/
theorem expertOps_keep (r : Ref sig .tc) (h : r ∉ expertRefs) : after expertOps σ (Proc.devRef .tc r) = σ (Proc.devRef .tc r) :=
  after_of_writes_sub (W := expertRefs) _ σ (forall_writes_sub_of_map rfl) h

/-- The second stage keeps a buffer it doesn't write. -/
theorem routeOps_keep (r : Ref sig .tc) (h : r ∉ routeRefs) : after routeOps σ (Proc.devRef .tc r) = σ (Proc.devRef .tc r) :=
  after_of_writes_sub (W := routeRefs) _ σ (forall_writes_sub_of_map rfl) h

/-- The fourth stage keeps a buffer it doesn't write. -/
theorem flipOps_keep (r : Ref sig .tc) (h : r ∉ flipRefs) : after flipOps σ (Proc.devRef .tc r) = σ (Proc.devRef .tc r) :=
  after_of_writes_sub (W := flipRefs) _ σ (forall_writes_sub_of_map rfl) h

/-- The third stage keeps a buffer it doesn't write. -/
theorem pickOps_keep (r : Ref sig .tc) (h : r ∉ pickRefs) : after pickOps σ (Proc.devRef .tc r) = σ (Proc.devRef .tc r) :=
  after_of_writes_sub (W := pickRefs) _ σ (forall_writes_sub_of_map rfl) h

/-- The fifth stage keeps a buffer it doesn't write. -/
theorem pickFlipOps_keep (r : Ref sig .tc) (h : r ∉ pickFlipRefs) : after pickFlipOps σ (Proc.devRef .tc r) = σ (Proc.devRef .tc r) :=
  after_of_writes_sub (W := pickFlipRefs) _ σ (forall_writes_sub_of_map rfl) h

end Segments

/-- The first result, of the arguments' launch contents. -/
def res0 (m : (ℓ : Loc nD τ sig) → Buf (Elt F) ℓ) (c : Dev nD) : Arr F S32768x64 :=
  pickArr (expertArr (m (c, main_arg0)) (m (c, main_arg1)) (m (c, main_arg7)) (m (c, main_arg8)) (m (c, main_arg9)) (m (c, main_arg10)))
    (routeArr (m (c, main_arg0)) (m (c, main_arg1)) (m (c, main_arg2)) (m (c, main_arg3)) (m (c, main_arg4)) (m (c, main_arg5)) (m (c, main_arg6)))

/-- The second result: the same experts, the router reading the flipped pair. -/
def res1 (m : (ℓ : Loc nD τ sig) → Buf (Elt F) ℓ) (c : Dev nD) : Arr F S32768x64 :=
  pickArr (expertArr (m (c, main_arg0)) (m (c, main_arg1)) (m (c, main_arg7)) (m (c, main_arg8)) (m (c, main_arg9)) (m (c, main_arg10)))
    (routeArr (m (c, main_arg1)) (m (c, main_arg0)) (m (c, main_arg2)) (m (c, main_arg3)) (m (c, main_arg4)) (m (c, main_arg5)) (m (c, main_arg6)))

section Whole

variable (σ : Valuation τ sig (Elt F))

/-- A buffer that no operation writes is kept by the whole program. -/
theorem ops_keep (r : Ref sig .tc) (h0 : r ∉ expertRefs) (h1 : r ∉ routeRefs) (h2 : r ∉ pickRefs) (h3 : r ∉ flipRefs)
    (h4 : r ∉ pickFlipRefs) : after ops σ (Proc.devRef .tc r) = σ (Proc.devRef .tc r) := by
  rw [ops, after_append, after_append, after_append, after_append, pickFlipOps_keep _ r h4, flipOps_keep _ r h3,
    pickOps_keep _ r h2, routeOps_keep _ r h1, expertOps_keep _ r h0]

/-- The first result after all stages, of the arguments. -/
theorem ops_v42 : after ops σ (Proc.devRef .tc main_v42)
    = pickArr (expertArr (σ main_arg0) (σ main_arg1) (σ main_arg7) (σ main_arg8) (σ main_arg9) (σ main_arg10))
      (routeArr (σ main_arg0) (σ main_arg1) (σ main_arg2) (σ main_arg3) (σ main_arg4) (σ main_arg5) (σ main_arg6)) := by
  rw [ops, after_append, after_append, after_append, after_append, pickFlipOps_keep _ main_v42 (by decide),
    flipOps_keep _ main_v42 (by decide), pickOps_v42, routeOps_keep _ main_v17 (by decide), expertOps_v17,
    routeOps_v38 _ _ _ (expertOps_v0 σ), expertOps_keep _ main_arg2 (by decide), expertOps_keep _ main_arg3 (by decide),
    expertOps_keep _ main_arg4 (by decide), expertOps_keep _ main_arg5 (by decide), expertOps_keep _ main_arg6 (by decide)]

/-- The first three stages keep a buffer none of them writes. -/
theorem firstRoute_keep (r : Ref sig .tc) (h0 : r ∉ expertRefs) (h1 : r ∉ routeRefs) (h2 : r ∉ pickRefs) :
    after pickOps (after routeOps (after expertOps σ)) (Proc.devRef .tc r) = σ (Proc.devRef .tc r) := by
  rw [pickOps_keep _ r h2, routeOps_keep _ r h1, expertOps_keep _ r h0]

/-- The second result after all stages, of the arguments. -/
theorem ops_v68 : after ops σ (Proc.devRef .tc main_v68)
    = pickArr (expertArr (σ main_arg0) (σ main_arg1) (σ main_arg7) (σ main_arg8) (σ main_arg9) (σ main_arg10))
      (routeArr (σ main_arg1) (σ main_arg0) (σ main_arg2) (σ main_arg3) (σ main_arg4) (σ main_arg5) (σ main_arg6)) := by
  rw [ops, after_append, after_append, after_append, after_append, pickFlipOps_v68, flipOps_keep _ main_v17 (by decide),
    pickOps_keep _ main_v17 (by decide), routeOps_keep _ main_v17 (by decide), expertOps_v17, flipOps_v64]
  simp only [firstRoute_keep σ main_arg0 (by decide) (by decide) (by decide),
    firstRoute_keep σ main_arg1 (by decide) (by decide) (by decide), firstRoute_keep σ main_arg2 (by decide) (by decide) (by decide),
    firstRoute_keep σ main_arg3 (by decide) (by decide) (by decide), firstRoute_keep σ main_arg4 (by decide) (by decide) (by decide),
    firstRoute_keep σ main_arg5 (by decide) (by decide) (by decide), firstRoute_keep σ main_arg6 (by decide) (by decide) (by decide)]

end Whole

/-- Every execution of the reference ends with its results at `res0` and `res1` and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = res0 m c
      ∧ r.2.mem ((c.tc : Thread nD τ).loc main_v68) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun q h c =>
    have keep (r : Ref sig .tc) (h0 : r ∉ expertRefs) (h1 : r ∉ routeRefs) (h2 : r ∉ pickRefs) (h3 : r ∉ flipRefs)
        (h4 : r ∉ pickFlipRefs) : q.2.mem ((c.tc : Thread nD τ).loc r) = m ((c.tc : Thread nD τ).loc r) :=
      (h c r).trans (ops_keep (fun b => m (c, b)) r h0 h1 h2 h3 h4)
    ⟨(h c main_v42).trans (ops_v42 _), (h c main_v68).trans (ops_v68 _),
      keep main_arg0 (by decide) (by decide) (by decide) (by decide) (by decide),
      keep main_arg1 (by decide) (by decide) (by decide) (by decide) (by decide),
      keep main_arg2 (by decide) (by decide) (by decide) (by decide) (by decide),
      keep main_arg3 (by decide) (by decide) (by decide) (by decide) (by decide),
      keep main_arg4 (by decide) (by decide) (by decide) (by decide) (by decide),
      keep main_arg5 (by decide) (by decide) (by decide) (by decide) (by decide),
      keep main_arg6 (by decide) (by decide) (by decide) (by decide) (by decide),
      keep main_arg7 (by decide) (by decide) (by decide) (by decide) (by decide),
      keep main_arg8 (by decide) (by decide) (by decide) (by decide) (by decide),
      keep main_arg9 (by decide) (by decide) (by decide) (by decide) (by decide),
      keep main_arg10 (by decide) (by decide) (by decide) (by decide) (by decide)⟩)
    (run_after m ρ)

end Cert.ReferenceIdeal.Run

end
-- ==== Proof.Frames.lean ====
/- The frames (each program ends, its arguments unchanged and its semaphores at zero), and the claim that names the
   kernel's constant. -/
module

public import proofs.«01_k».proof.Defs
public import proofs.«01_k».proof.Proof.Gen.Kernel.Frame
public import proofs.«01_k».proof.Proof.Gen.KernelIdeal.Frame
public import proofs.«01_k».proof.Proof.RefRun
public import Idealize.ShloMosaic.Lib.Quiescent

@[expose] public section

noncomputable section

namespace Cert.Proof.Frames

open Idealize.ShloMosaic Idealize.SL.Sem

/-- The side conditions of the precondition's text. -/
theorem pre_facts : Cert.Pre_zero_biases.Facts := ⟨by decide, by decide, by decide, by decide⟩

attribute [instance] pre_facts

/-- The kernel ends, without fault, its arguments unchanged. -/
theorem kernel : Cert.quiescent_Kernel := fun m ρ _ => Cert.Kernel.Gen.frame m ρ

/-- So does its ideal program. -/
theorem kernelIdeal : Cert.quiescent_KernelIdeal := fun m ρ _ => Cert.KernelIdeal.Gen.frame m ρ

/-- So does it where the biases are zero. -/
theorem kernelIdeal_pre : Cert.quiescent_KernelIdeal_pre_zero_biases := fun m ρ _ => Cert.KernelIdeal.Gen.frame m ρ

/-- So does the ideal reference. -/
theorem reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Run.run (F := Ideal) m ρ)

/-- So does it where the biases are zero. -/
theorem reference_pre : Cert.quiescent_ReferenceIdeal_pre_zero_biases := fun m ρ _ => reference m ρ trivial

/-- The kernel's constant, the float32 and the bfloat16 nearest to 1/√2, carries the name of 1/√2 itself. -/
theorem preserves : Cert.preserves_Kernel_KernelIdeal :=
  ⟨IdealRules.named_const.statement Cert.KernelIdeal.κ "inv_sqrt_two" .f32 0x3F3504F3#32 _ rfl,
    IdealRules.named_const.statement Cert.KernelIdeal.κ "inv_sqrt_two" .bf16 0x3F35#16 _ rfl⟩

end Cert.Proof.Frames

end
-- ==== Proof.Spec.lean ====
/- The mathematics of the layer, row by row, in extended reals: the gelu, the router's scores of a pair, an expert's
   output, and the first position of the greatest score. -/
module

public import Idealize.ShloMosaic.PureOps.Ideal.Laws
public import Mathlib.Algebra.BigOperators.Fin

@[expose] public section

noncomputable section

namespace Cert.Proof.Spec

open Idealize.ShloMosaic

/-- One half. -/
def half : EReal := ((1 / 2 : ℝ) : EReal)
/-- 1/√2. -/
def root : EReal := (((Real.sqrt 2)⁻¹ : ℝ) : EReal)

/-- The exact gelu: `x/2 · (1 + erf (x/√2))`. -/
def gelu (x : EReal) : EReal := half * x * (1 + Ideal.erf (x * root))

/-- The two rows of a pair side by side. -/
def pairRow (u v : Fin 64 → EReal) (k : Fin 128) : EReal :=
  if h : (k : Nat) < 64 then u ⟨k, h⟩ else v ⟨k - 64, by omega⟩

/-- The router's input: the two rows of a pair, and the position's row. -/
def input (u v : Fin 64 → EReal) (p : Fin 8 → EReal) (k : Fin 136) : EReal :=
  if h : (k : Nat) < 64 then u ⟨k, h⟩
  else if h : (k : Nat) - 64 < 64 then v ⟨k - 64, h⟩ else p ⟨k - 64 - 64, by omega⟩

/-- The router's hidden row. -/
def hiddenRow (u v : Fin 64 → EReal) (p : Fin 8 → EReal) (w1 : Fin 64 → Fin 136 → EReal) (j : Fin 64) : EReal :=
  gelu (∑ k, input u v p k * w1 j k)

/-- The router's score of expert `t`. -/
def score (u v : Fin 64 → EReal) (p : Fin 8 → EReal) (w1 : Fin 64 → Fin 136 → EReal) (w2 : Fin 8 → Fin 64 → EReal)
    (t : Fin 8) : EReal :=
  ∑ j, hiddenRow u v p w1 j * w2 t j

/-- Entry `k` of expert `t`'s output row. -/
def expert (u v : Fin 64 → EReal) (t1 : Fin 8 → Fin 128 → Fin 128 → EReal) (t2 : Fin 8 → Fin 64 → Fin 128 → EReal)
    (t : Fin 8) (k : Fin 64) : EReal :=
  ∑ j, gelu (∑ i, pairRow u v i * t1 t j i) * t2 t k j

/-- `t` is the first position of the greatest of eight scores. -/
def IsFirst (l : Fin 8 → EReal) (t : Fin 8) : Prop := (∀ s, l s ≤ l t) ∧ ∀ s < t, l s < l t

/-- There is one such position only. -/
theorem IsFirst.unique {l : Fin 8 → EReal} {s t : Fin 8} (hs : IsFirst l s) (ht : IsFirst l t) : s = t := by
  rcases lt_trichotomy s t with h | h | h
  · exact absurd (ht.2 s h) (not_lt.mpr (hs.1 t))
  · exact h
  · exact absurd (hs.2 t h) (not_lt.mpr (ht.1 s))

/-- An index of the router's input with the two rows of the pair exchanged. -/
def swap (k : Fin 136) : Fin 136 :=
  if h : (k : Nat) < 64 then ⟨64 + k, by omega⟩
  else if h : (k : Nat) - 64 < 64 then ⟨k - 64, by omega⟩ else k

/-- The exchanged index as a number. -/
theorem swap_val (k : Fin 136) :
    (swap k).val = if k.val < 64 then 64 + k.val else if k.val - 64 < 64 then k.val - 64 else k.val := by
  unfold swap
  split_ifs <;> rfl

/-- Exchanging twice changes nothing. -/
theorem swap_swap (k : Fin 136) : swap (swap k) = k := by
  ext
  rw [swap_val, swap_val]
  split_ifs <;> omega

/-- Reading the input at an exchanged index is reading the input of the flipped pair. -/
theorem input_swap (u v : Fin 64 → EReal) (p : Fin 8 → EReal) (k : Fin 136) : input u v p (swap k) = input v u p k := by
  have h := swap_val k
  unfold input
  split_ifs at h ⊢ <;> first | omega | (congr 1; ext; simp only [h]; omega) | (congr 1; ext; simp only [h])

/-- A product of the input with exchanged weights is the flipped pair's product with the weights. -/
theorem sum_swap (u v : Fin 64 → EReal) (p : Fin 8 → EReal) (w : Fin 136 → EReal) :
    ∑ k, input u v p k * w (swap k) = ∑ k, input v u p k * w k := by
  have e := Equiv.sum_comp (⟨swap, swap, swap_swap, swap_swap⟩ : Fin 136 ≃ Fin 136) fun k => input u v p (swap k) * w k
  simp only [Equiv.coe_fn_mk, swap_swap, input_swap u v p] at e
  refine Eq.trans ?_ e
  rfl

/-- A sum over 128 indices, by halves. -/
theorem sum_halves (f : Fin 128 → EReal) :
    ∑ k, f k = (∑ j : Fin 64, f ⟨j, by omega⟩) + ∑ j : Fin 64, f ⟨64 + j, by omega⟩ :=
  Fin.sum_univ_add (a := 64) (b := 64) f

/-- A product of the router's input with weights, part by part. -/
theorem sum_input (u v : Fin 64 → EReal) (p : Fin 8 → EReal) (w : Fin 136 → EReal) :
    ∑ k, input u v p k * w k
      = (∑ k : Fin 64, u k * w ⟨k, by omega⟩) + (∑ k : Fin 64, v k * w ⟨64 + k, by omega⟩)
        + ∑ k : Fin 8, p k * w ⟨128 + k, by omega⟩ := by
  have h1 := Fin.sum_univ_add (a := 128) (b := 8) fun k => input u v p k * w k
  have h2 := Fin.sum_univ_add (a := 64) (b := 64) fun k => input u v p (Fin.castAdd 8 k) * w (Fin.castAdd 8 k)
  rw [h1, h2]
  refine congrArg₂ (· + ·) (congrArg₂ (· + ·) (Finset.sum_congr rfl fun k _ => ?_) (Finset.sum_congr rfl fun k _ => ?_))
    (Finset.sum_congr rfl fun k _ => ?_) <;> refine congrArg₂ (· * ·) ?_ rfl <;> unfold input
  · rw [dif_pos (by simp)]; rfl
  · rw [dif_neg (by simp), dif_pos (by simp)]; congr 1; ext; simp
  · rw [dif_neg (by simp; omega), dif_neg (by simp; omega)]; congr 1; ext; simp; omega

/-- A product of the pair with weights, row by row. -/
theorem sum_pairRow (u v : Fin 64 → EReal) (w : Fin 128 → EReal) :
    ∑ k, pairRow u v k * w k = (∑ k : Fin 64, u k * w ⟨k, by omega⟩) + ∑ k : Fin 64, v k * w ⟨64 + k, by omega⟩ := by
  rw [sum_halves]
  refine congrArg₂ (· + ·) (Finset.sum_congr rfl fun k _ => ?_) (Finset.sum_congr rfl fun k _ => ?_) <;>
    refine congrArg₂ (· * ·) ?_ rfl <;> unfold pairRow
  · rw [dif_pos (by simp)]
  · rw [dif_neg (by simp)]; congr 1; ext; simp

/-- Dividing scores by one half keeps the first greatest position. -/
theorem IsFirst.div_half {l : Fin 8 → EReal} {t : Fin 8} (h : IsFirst l t) :
    IsFirst (fun s => Ideal.div (l s) half) t := by
  have hne : (1 / 2 : ℝ) ≠ 0 := by norm_num
  have hdiv (x : EReal) : Ideal.div x half = x * ((2 : ℝ) : EReal) := by
    unfold half; rw [Ideal.div_coe hne]; norm_num
  have hback (x : EReal) : x * ((2 : ℝ) : EReal) * half = x := by
    unfold half; rw [mul_assoc, ← EReal.coe_mul]; norm_num
  have hle (x y : EReal) (hxy : x ≤ y) : x * ((2 : ℝ) : EReal) ≤ y * ((2 : ℝ) : EReal) :=
    mul_le_mul_of_nonneg_right hxy (by exact_mod_cast (by norm_num : (0 : ℝ) ≤ 2))
  simp only [IsFirst, hdiv]
  refine ⟨fun s => hle _ _ (h.1 s), fun s hs => lt_of_le_of_ne (hle _ _ (h.1 s)) fun e => ?_⟩
  have e' := congrArg (· * half) e
  simp only [hback] at e'
  exact absurd e' (h.2 s hs).ne

/-- `0.5` in float32 and in bfloat16. -/
theorem ofBits_half_f32 : Ideal.ofBits .f32 0x3F000000#32 = half := by
  unfold half; simp [Ideal.ofBits, Ideal.ieee, -EReal.coe_mul]; norm_num
/-- The bfloat16 word of one half. -/
theorem ofBits_half_bf16 : Ideal.ofBits .bf16 0x3F00#16 = half := by
  unfold half; simp [Ideal.ofBits, Ideal.ieee, -EReal.coe_mul]; norm_num
/-- The float32 word of two. -/
theorem ofBits_two_f32 : Ideal.ofBits .f32 0x40000000#32 = ((2 : ℝ) : EReal) := by
  simp [Ideal.ofBits, Ideal.ieee, -EReal.coe_mul]; norm_num
/-- The float32 word of minus infinity. -/
theorem ofBits_bot_f32 : Ideal.ofBits .f32 0xFF800000#32 = ⊥ := by
  simp [Ideal.ofBits, Ideal.ieee, -EReal.coe_mul]

/-- The gelu by the complementary error function, the argument negated and divided by the root of two. -/
theorem gelu_eq_erfc (x : EReal) :
    half * x * Ideal.erfc (Ideal.div (-x) (Ideal.sqrt ((2 : ℝ) : EReal))) = gelu x := by
  have h2 : Real.sqrt 2 ≠ 0 := by positivity
  rw [Ideal.sqrt_coe, if_neg (by norm_num), Ideal.div_coe h2, neg_mul, Ideal.erfc_neg, one_div]
  rfl

end Cert.Proof.Spec

end
-- ==== Proof.First.lean ====
/- The first position of the greatest of eight scores, as the kernel computes it (a maximum, then the least position
   that holds it) and as a fold over (score, position) pairs computes it. -/
module

public import proofs.«01_k».proof.Proof.Spec
public import Idealize.ShloMosaic.Lib.SortNet.Extract

@[expose] public section

noncomputable section

namespace Cert.Proof.Spec

open Idealize.ShloMosaic

/-- Eight scores have a first position of the greatest. -/
theorem exists_isFirst (l : Fin 8 → EReal) : ∃ t, IsFirst l t := by
  classical
  have hne : (Finset.univ.filter fun t => ∀ s, l s ≤ l t).Nonempty := by
    obtain ⟨t, -, ht⟩ := Finset.exists_max_image Finset.univ l ⟨0, Finset.mem_univ _⟩
    exact ⟨t, Finset.mem_filter.mpr ⟨Finset.mem_univ _, fun s => ht s (Finset.mem_univ _)⟩⟩
  refine ⟨Finset.min' _ hne, (Finset.mem_filter.mp (Finset.min'_mem _ hne)).2, fun s hs => ?_⟩
  have hmax := (Finset.mem_filter.mp (Finset.min'_mem _ hne)).2
  refine lt_of_le_of_ne (hmax s) fun he => ?_
  exact absurd (Finset.min'_le _ s (Finset.mem_filter.mpr ⟨Finset.mem_univ _, fun r => he ▸ hmax r⟩)) (not_le.mpr hs)

/-- A position as a signed word is itself. -/
theorem toInt_pos (t : Fin 8) : (BitVec.ofNat 32 (t : Nat)).toInt = (t : Int) := by
  revert t; decide

/-- The fold of the maximum over the scores is the score at the first greatest position. -/
theorem fold_max_eq {l : Fin 8 → EReal} {t : Fin 8} (ht : IsFirst l t) : Finset.univ.fold max ⊥ l = l t :=
  le_antisymm (Finset.fold_max_le (l t) |>.mpr ⟨bot_le, fun s _ => ht.1 s⟩)
    ((Finset.le_fold_max (l t)).mpr (Or.inr ⟨t, Finset.mem_univ _, le_rfl⟩))

/-- The least position that holds the maximum, as a signed minimum of words, is the first greatest position's word. -/
theorem fold_minsi_eq {l : Fin 8 → EReal} {t : Fin 8} (ht : IsFirst l t) :
    Finset.univ.fold IntOp.minsi 2147483647#32
      (fun s : Fin 8 => if l s = Finset.univ.fold max ⊥ l then BitVec.ofNat 32 (s : Nat) else 8#32)
      = BitVec.ofNat 32 (t : Nat) := by
  rw [fold_max_eq ht]
  apply BitVec.eq_of_toInt_eq
  rw [← Finset.fold_hom (op' := min) (m := BitVec.toInt) fun x y => SortNet.toInt_minsi x y, toInt_pos]
  apply le_antisymm
  · refine (Finset.fold_min_le (t : Int)).mpr (Or.inr ⟨t, Finset.mem_univ _, ?_⟩)
    rw [if_pos rfl, toInt_pos]
  · refine (Finset.le_fold_min (t : Int)).mpr ⟨?_, fun s _ => ?_⟩
    · have h := t.isLt
      show (t : Int) ≤ 2147483647
      omega
    · split_ifs with h
      · rw [toInt_pos]
        have hs : t ≤ s := not_lt.mp fun hlt => absurd (ht.2 s hlt) (by rw [h]; exact lt_irrefl _)
        exact_mod_cast hs
      · have h := t.isLt
        show (t : Int) ≤ 8
        omega

/-! ## A fold that keeps the better of two -/

/-- A left fold of an operation that returns one of its two operands, one at least as good as the other, returns a
    member at least as good as every member. -/
theorem foldl_best {α : Type} (f : α → α → α) (good : α → α → Prop) (hrefl : ∀ a, good a a)
    (htrans : ∀ a b c, good a b → good b c → good a c)
    (hf : ∀ a b, (f a b = a ∧ good a b) ∨ (f a b = b ∧ good b a)) (l : List α) (i : α) :
    (l.foldl f i = i ∨ l.foldl f i ∈ l) ∧ good (l.foldl f i) i ∧ ∀ x ∈ l, good (l.foldl f i) x := by
  induction l generalizing i with
  | nil => exact ⟨.inl rfl, hrefl i, fun x hx => absurd hx List.not_mem_nil⟩
  | cons y l ih =>
    obtain ⟨hm, hg, hall⟩ := ih (f i y)
    rw [List.foldl_cons]
    have hboth : good (f i y) i ∧ good (f i y) y := by
      rcases hf i y with ⟨e, g⟩ | ⟨e, g⟩ <;> rw [e]
      · exact ⟨hrefl _, g⟩
      · exact ⟨g, hrefl _⟩
    refine ⟨?_, htrans _ _ _ hg hboth.1, fun x hx => ?_⟩
    · rcases hm with h | h
      · rw [h]
        rcases hf i y with ⟨e, -⟩ | ⟨e, -⟩ <;> rw [e]
        · exact .inl rfl
        · exact .inr List.mem_cons_self
      · exact .inr (List.mem_cons_of_mem _ h)
    · rcases List.mem_cons.mp hx with rfl | h
      · exact htrans _ _ _ hg hboth.2
      · exact hall x h

/-- Of two (score, position) pairs, the first is at least as good: a greater score, or the same one at a position not
    later. -/
def Better (a b : EReal × BitVec 32) : Prop := b.1 < a.1 ∨ (a.1 = b.1 ∧ a.2.toInt ≤ b.2.toInt)

/-- A pair is at least as good as itself. -/
theorem Better.refl (a : EReal × BitVec 32) : Better a a := .inr ⟨rfl, le_rfl⟩

/-- Being at least as good is transitive. -/
theorem Better.trans (a b c : EReal × BitVec 32) : Better a b → Better b c → Better a c := by
  rintro (h | ⟨h, h'⟩) (g | ⟨g, g'⟩)
  · exact .inl (g.trans h)
  · exact .inl (g ▸ h)
  · exact .inl (h ▸ g)
  · exact .inr ⟨h.trans g, h'.trans g'⟩

/-- The pair at position 0 of score `⊥` folded, in any order, with the eight scores' pairs, by an operation that keeps
    the better of two, ends at the first greatest position. -/
theorem foldl_first (f : EReal × BitVec 32 → EReal × BitVec 32 → EReal × BitVec 32)
    (hf : ∀ a b, (f a b = a ∧ Better a b) ∨ (f a b = b ∧ Better b a)) (l : Fin 8 → EReal)
    (L : List (EReal × BitVec 32)) (hL : ∀ x ∈ L, ∃ s : Fin 8, x = (l s, BitVec.ofNat 32 (s : Nat)))
    (hall : ∀ s : Fin 8, (l s, BitVec.ofNat 32 (s : Nat)) ∈ L) {t : Fin 8} (ht : IsFirst l t) :
    (L.foldl f (⊥, 0#32)).2 = BitVec.ofNat 32 (t : Nat) := by
  obtain ⟨hm, -, hb⟩ := foldl_best f Better Better.refl Better.trans hf L (⊥, 0#32)
  have hb' : ∀ s : Fin 8, Better (L.foldl f (⊥, 0#32)) (l s, BitVec.ofNat 32 (s : Nat)) := fun s => hb _ (hall s)
  obtain ⟨r, hr⟩ : ∃ r : Fin 8, L.foldl f (⊥, 0#32) = (l r, BitVec.ofNat 32 (r : Nat)) := by
    rcases hm with h | h
    · refine ⟨0, ?_⟩
      rcases hb' 0 with g | ⟨g, -⟩
      · rw [h] at g; exact absurd g not_lt_bot
      · rw [h] at g ⊢
        exact Prod.ext g rfl
    · exact hL _ h
  rw [hr] at hb' ⊢
  have hfirst : IsFirst l r := by
    refine ⟨fun s => ?_, fun s hs => ?_⟩
    · rcases hb' s with g | ⟨g, -⟩
      · exact le_of_lt g
      · exact le_of_eq g.symm
    · rcases hb' s with g | ⟨-, g⟩
      · exact g
      · simp only [toInt_pos] at g
        exact absurd (show (r : Nat) ≤ s by exact_mod_cast g) (not_le.mpr hs)
  rw [hfirst.unique ht]

end Cert.Proof.Spec

end
-- ==== Proof.RefValue.lean ====
/- What the reference's results hold, entry by entry: the router's scores, the experts' rows, the arg-max and the row
   taken at it. -/
module

public import proofs.«01_k».proof.Proof.RefRun
public import proofs.«01_k».proof.Proof.First
public import Idealize.ShloMosaic.Lib.Pipeline.ValueKit
public import Idealize.ShloMosaic.PureOps.Ideal.Laws

@[expose] public section

set_option maxRecDepth 16384

noncomputable section

namespace Cert.ReferenceIdeal.Value

open Cert.ReferenceIdeal Cert.ReferenceIdeal.Gen Cert.ReferenceIdeal.Run Idealize.ShloMosaic Idealize.ShloMosaic.TcCoe Idealize.SL.Sem
open Cert.Proof.Spec (half gelu input pairRow hiddenRow score expert IsFirst)

/-! ## The arg-max -/

/-- The reference's comparison of two (score, position) pairs keeps the better one. -/
theorem reducer_best (a b : EReal × BitVec 32) :
    (reducer_argmax_f32_i32 (F := Ideal) a b = a ∧ Cert.Proof.Spec.Better a b)
      ∨ (reducer_argmax_f32_i32 (F := Ideal) a b = b ∧ Cert.Proof.Spec.Better b a) := by
  obtain ⟨a1, a2⟩ := a
  obtain ⟨b1, b2⟩ := b
  have hslt : a2.slt b2 = decide (a2.toInt < b2.toInt) := rfl
  simp only [reducer_argmax_f32_i32, Ideal.cmpf_def, Ideal.cmp, IntOp.cmpi, IntOp.ori, IntOp.andi, Scalar.select, hslt,
    Cert.Proof.Spec.Better]
  rcases lt_trichotomy a1 b1 with h | h | h
  · right
    simp [h, not_lt.mpr h.le, h.ne]
  · subst h
    by_cases g : a2.toInt < b2.toInt
    · left; simp [g, g.le]
    · right; simp [g, not_lt.mp g]
  · left
    simp [h, h.ne']

/-- The position the reference takes is the first of the greatest score. -/
theorem argmaxArr_eq (x : Arr Ideal S32768x8) (j : S32768.Idx) {t : Fin 8}
    (ht : IsFirst (fun s : Fin 8 => x (ix2 (j 0) s)) t) : argmaxArr x j = BitVec.ofNat 32 (t : Nat) := by
  unfold argmaxArr
  rw [Ideal.argReduce_eq_reduce2, Host.reduce2_eq_foldl_fiber]
  have hdrop (i : S32768x8.Idx) : reducesTo_S32768x8_S32768_d1.drop i = j ↔ i 0 = j 0 := by
    have hv := Shape.ReducesTo.drop_apply_val_of_eq reducesTo_S32768x8_S32768_d1 i 0 0
    constructor
    · intro h; rw [h] at hv; exact (Fin.ext hv).symm
    · intro h; funext a; obtain rfl : a = 0 := Subsingleton.elim _ _; exact Fin.ext (hv.trans (congrArg Fin.val h))
  have hix (i : S32768x8.Idx) (h : i 0 = j 0) : i = ix2 (j 0) (i 1) := by
    funext a
    match a with
    | ⟨0, _⟩ => exact h
    | ⟨1, _⟩ => rfl
  have hbot : constant (F := Ideal) S_ .f32 0xFF800000#32 (Shape.Idx.first h_S_) = (⊥ : EReal) :=
    Cert.Proof.Spec.ofBits_bot_f32
  rw [hbot]
  refine Cert.Proof.Spec.foldl_first _ reducer_best (fun s : Fin 8 => x (ix2 (j 0) s)) _ ?_ ?_ ht
  · intro p hp
    obtain ⟨n, hn, rfl⟩ := List.mem_map.mp hp
    have h0 := (hdrop _).mp (of_decide_eq_true (List.mem_filter.mp hn).2)
    refine ⟨S32768x8.rowMajor.symm n 1, ?_⟩
    generalize S32768x8.rowMajor.symm n = i at h0 ⊢
    refine Prod.ext ?_ rfl
    exact congrArg x (hix i h0)
  · intro s
    refine List.mem_map.mpr ⟨S32768x8.rowMajor (ix2 (j 0) s), List.mem_filter.mpr ⟨List.mem_finRange _, ?_⟩, ?_⟩
    · rw [Equiv.symm_apply_apply]
      exact decide_eq_true ((hdrop _).mpr rfl)
    · rw [Equiv.symm_apply_apply]
      rfl

/-! ## The row taken -/

/-- The reference's gather at row `r` and column `k`: the operand at the row's index, read signed and clamped into the
    eight positions. -/
theorem gather_apply (x : Arr Ideal S32768x8x64) (idx : ArrI Ideal S32768x1x1) (y : S32768x1x64.Idx) :
    Host.gather gather_S32768x8x64_S32768x1x1_S32768x1x64_2_1_0_0_1_2_1164 x idx y
      = x (ix3 (y 0) ⟨min (idx (ix3 (y 0) 0 0)).toInt.toNat 7, by omega⟩ (y 2)) := by
  unfold Host.gather
  congr 1
  funext a
  refine Fin.ext ?_
  set d := gather_S32768x8x64_S32768x1x1_S32768x1x64_2_1_0_0_1_2_1164 with hd
  show d.start y idx a + d.batchCoord y a + d.offCoord y a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx y ⟨List.idxOf (1 : Fin 3) d.startIndexMap, List.idxOf_lt_length_iff.2 (List.mem_singleton.mpr rfl)⟩
        = ix3 (y 0) 0 0 := by
      funext b; refine Fin.ext ?_
      match b with
      | ⟨0, _⟩ => rfl
      | ⟨1, _⟩ => exact Nat.lt_one_iff.mp (y 1).isLt
      | ⟨2, _⟩ => rfl
    rw [hsi]
    rfl
  · rw [GatherDims.batchCoord_eq_zero _ _ _ (fun h => absurd (List.mem_singleton.mp h) (by decide))]
    unfold GatherDims.start
    rw [dif_neg (show (2 : Fin 3) ∉ d.startIndexMap from fun h => absurd (List.mem_singleton.mp h) (by decide))]
    simp only [Nat.zero_add, Nat.add_zero]
    rfl

/-- An index below eight isn't wrapped. -/
theorem wrap_eq : ∀ t : Fin 8, Scalar.select (IntOp.cmpi .slt (BitVec.ofNat 32 (t : Nat)) 0#32)
    (IntOp.addi (BitVec.ofNat 32 (t : Nat)) 8#32) (BitVec.ofNat 32 (t : Nat)) = BitVec.ofNat 32 (t : Nat) := by
  decide
/-- Such an index passes the range test. -/
theorem inRange_eq : ∀ t : Fin 8, IntOp.andi (IntOp.andi (IntOp.cmpi .sge (BitVec.ofNat 32 (t : Nat)) 0#32)
    (IntOp.cmpi .sle (BitVec.ofNat 32 (t : Nat)) 7#32)) 1#1 = 1#1 := by
  decide
/-- Such an index isn't clamped. -/
theorem clamp_eq : ∀ t : Fin 8, min (BitVec.ofNat 32 (t : Nat)).toInt.toNat 7 = (t : Nat) := by
  decide

/-- The index of a row is the first position of the row's greatest score. -/
theorem wrapArr_apply (l : Arr Ideal S32768x8) (y : S32768x1x1.Idx) {t : Fin 8}
    (ht : IsFirst (fun s : Fin 8 => l (ix2 (y 0) s)) t) :
    wrapArr (F := Ideal) (broadcastInDim S32768x1x1 ![0] bcast_S32768_S32768x1x1_0 (argmaxArr l)) y
      = BitVec.ofNat 32 (t : Nat) := by
  have ha : argmaxArr l (ix1 (y 0)) = BitVec.ofNat 32 (t : Nat) := argmaxArr_eq l (ix1 (y 0)) ht
  pointwise [wrapArr]
  rw [ha]
  exact wrap_eq t

/-- A result's entry: that of the expert at the first greatest score of the row. -/
theorem pickArr_apply (x : Arr Ideal S32768x8x64) (l : Arr Ideal S32768x8) (i : S32768x64.Idx) {t : Fin 8}
    (ht : IsFirst (fun s : Fin 8 => l (ix2 (i 0) s)) t) : pickArr x l i = x (ix3 (i 0) t (i 1)) := by
  have hw : wrapArr (F := Ideal) (broadcastInDim S32768x1x1 ![0] bcast_S32768_S32768x1x1_0 (argmaxArr l))
      (ix3 (i 0) 0 0) = BitVec.ofNat 32 (t : Nat) := wrapArr_apply l (ix3 (i 0) 0 0) ht
  pointwise [pickArr, takeArr]
  rw [gather_apply]
  generalize wrapArr (F := Ideal) (broadcastInDim S32768x1x1 ![0] bcast_S32768_S32768x1x1_0 (argmaxArr l)) = w at hw ⊢
  have hc : Finset.fold IntOp.andi (1#1) (fun k : Fin 1 => IntOp.andi
      (IntOp.cmpi .sge (w (ix3 (i 0) 0 k)) 0#32) (IntOp.cmpi .sle (w (ix3 (i 0) 0 k)) 7#32)) Finset.univ = 1#1 := by
    rw [Finset.univ_unique, Finset.fold_singleton]
    have hd : w (ix3 (i 0) 0 default) = BitVec.ofNat 32 (t : Nat) := hw
    rw [hd]
    exact inRange_eq t
  refine (congrArg (fun b => Scalar.select b _ _) hc).trans ?_
  refine congrArg x (congrArg (fun s : Fin 8 => ix3 (i 0) s (i 1)) (Fin.ext ?_))
  exact (congrArg (fun b : BitVec 32 => min b.toInt.toNat 7) hw).trans (clamp_eq t)

/-! ## The scores and the experts, with zero biases -/

/-- The router's score of expert `i 1` for row `i 0`, over one half. -/
theorem routeArr_apply (a b : Arr Ideal S32768x64) (p : Arr Ideal S32768x8) (w1 : Arr Ideal S64x136) (b1 : Arr Ideal S64)
    (w2 : Arr Ideal S8x64) (b2 : Arr Ideal S8) (h1 : ∀ j, b1 j = (0 : EReal)) (h2 : ∀ j, b2 j = (0 : EReal))
    (i : S32768x8.Idx) : routeArr a b p w1 b1 w2 b2 i
      = Ideal.div (score (fun k => a (ix2 (i 0) k)) (fun k => b (ix2 (i 0) k)) (fun k => p (ix2 (i 0) k))
          (fun j k => w1 (ix2 j k)) (fun t j => w2 (ix2 t j)) (i 1)) half := by
  pointwise [routeArr, geluArr, joinPos, joinPair]
  simp only [h1, h2, add_zero, Cert.Proof.Spec.ofBits_half_f32, Cert.Proof.Spec.ofBits_two_f32,
    Cert.Proof.Spec.gelu_eq_erfc, score, hiddenRow, Cert.Proof.Spec.sum_input]

/-- Entry `i 2` of expert `i 1`'s row for the pair of rows `i 0`. -/
theorem expertArr_apply (a b : Arr Ideal S32768x64) (w1 : Arr Ideal S8x128x128) (b1 : Arr Ideal S8x128)
    (w2 : Arr Ideal S8x64x128) (b2 : Arr Ideal S8x64) (h1 : ∀ j, b1 j = (0 : EReal)) (h2 : ∀ j, b2 j = (0 : EReal))
    (i : S32768x8x64.Idx) : expertArr a b w1 b1 w2 b2 i
      = expert (fun k => a (ix2 (i 0) k)) (fun k => b (ix2 (i 0) k)) (fun t j k => w1 (ix3 t j k))
          (fun t k j => w2 (ix3 t k j)) (i 1) (i 2) := by
  pointwise [expertArr, geluArr, joinPair]
  simp only [h1, h2, add_zero, Cert.Proof.Spec.ofBits_half_f32, Cert.Proof.Spec.ofBits_two_f32,
    Cert.Proof.Spec.gelu_eq_erfc, expert, Cert.Proof.Spec.sum_pairRow, mul_comm (w2 _)]

end Cert.ReferenceIdeal.Value

end
-- ==== Proof.Block.lean ====
/- What one block of the kernel computes: the router's scores of both orders, the routes, the experts' rows and the
   row stored at the route. -/
module

public import proofs.«01_k».proof.Proof.First
public import proofs.«01_k».proof.Proof.Gen.KernelIdeal.Frame
public import Idealize.ShloMosaic.Lib.Pipeline.ValueKit
public import Idealize.ShloMosaic.PureOps.Ideal.Laws

@[expose] public section

set_option maxRecDepth 16384

noncomputable section

namespace Cert.KernelIdeal.Block

open Cert.KernelIdeal Cert.KernelIdeal.Gen Idealize.ShloMosaic Idealize.ShloMosaic.TcCoe Idealize.SL.Sem
open Cert.Proof.Spec (half root gelu input pairRow hiddenRow score expert IsFirst)

/-- Row `r` of an array of rows. -/
abbrev row {n w : Nat} (x : (⟨2, ![n, w]⟩ : Shape).Idx → EReal) (r : Fin n) : Fin w → EReal := fun k => x (ix2 r k)

/-! ## Whole blocks: loading a block whole is the block itself -/

/-- A block of rows, loaded whole. -/
theorem ld_rows (x : Vec Ideal S4096x64 .f32) : View.ld x r0_0 = x := by funext i; pointwise
/-- A block of positions, loaded whole. -/
theorem ld_pos (x : Vec Ideal S4096x8 .f32) : View.ld x r0_1 = x := by funext i; pointwise
/-- The first router operand, loaded whole. -/
theorem ld_first (x : Vec Ideal S136x128 .bf16) : View.ld x r0_2 = x := by funext i; pointwise
/-- The second router operand, loaded whole. -/
theorem ld_second (x : Vec Ideal S128x16 .bf16) : View.ld x r0_3 = x := by funext i; pointwise
/-- The experts' first operand, loaded whole. -/
theorem ld_third (x : Vec Ideal S128x1024 .bf16) : View.ld x r0_4 = x := by funext i; pointwise

/-! ## The payloads' entries -/

/-- The two routers' scores: a hidden row of 128, through a gelu, times the second layer. -/
theorem scores_apply (v0 v1 : Vec Ideal S4096x64 .f32) (v2 : Vec Ideal S4096x8 .f32) (v7 : Vec Ideal S136x128 .bf16)
    (v19 : Vec Ideal S128x16 .bf16) (r : Fin 4096) (q : Fin 16) : k0_pay4 v0 v1 v2 v7 v19 (ix2 r q)
      = ∑ x : Fin 128, gelu (∑ k : Fin 136, input (row v0 r) (row v1 r) (row v2 r) k * v7 (ix2 k x)) * v19 (ix2 x q) := by
  pointwise [k0_pay4, k0_pay3]
  rw [IdealRules.named_const.ideal_named_scalar _ _ _ _ rfl]
  simp only [Cert.Proof.Spec.ofBits_half_f32]
  rfl

/-- The experts' hidden rows, all eight side by side. -/
theorem hidden_apply (v0 v1 : Vec Ideal S4096x64 .f32) (v2 : Vec Ideal S4096x8 .f32) (v : Vec Ideal S128x1024 .bf16)
    (r : Fin 4096) (q : Fin 1024) : k0_pay9 (k0_pay3 v0 v1 v2) v (ix2 r q)
      = gelu (∑ k : Fin 128, pairRow (row v0 r) (row v1 r) k * v (ix2 k q)) := by
  have hp (k : Fin 128) : (if h : (k : Nat) < 64 then v0 (ix2 r ⟨k, h⟩)
      else if h : (k : Nat) - 64 < 64 then v1 (ix2 r ⟨k - 64, h⟩) else v2 (ix2 r ⟨k - 64 - 64, by omega⟩))
        = pairRow (row v0 r) (row v1 r) k := by
    unfold pairRow
    split_ifs
    · rfl
    · rfl
    · omega
  pointwise [k0_pay9, k0_pay3]
  rw [IdealRules.named_const.ideal_named_scalar _ _ _ _ rfl]
  simp only [Cert.Proof.Spec.ofBits_half_bf16, hp]
  rfl

/-- The first route of a row: the first position of the greatest of its first eight scores. -/
theorem route_left (v0 v1 : Vec Ideal S4096x64 .f32) (v2 : Vec Ideal S4096x8 .f32) (v7 : Vec Ideal S136x128 .bf16)
    (v19 : Vec Ideal S128x16 .bf16) (r : Fin 4096) {t : Fin 8}
    (ht : IsFirst (fun s : Fin 8 => k0_pay4 v0 v1 v2 v7 v19 (ix2 r ⟨s, by omega⟩)) t) :
    k0_pay5 v0 v1 v2 v7 v19 (ix2 r 0) = BitVec.ofNat 32 (t : Nat) := by
  pointwise [k0_pay5]
  rw [Cert.Proof.Spec.ofBits_bot_f32]
  exact Cert.Proof.Spec.fold_minsi_eq ht

/-- The second route of a row: the same of its last eight scores. -/
theorem route_right (v0 v1 : Vec Ideal S4096x64 .f32) (v2 : Vec Ideal S4096x8 .f32) (v7 : Vec Ideal S136x128 .bf16)
    (v19 : Vec Ideal S128x16 .bf16) (r : Fin 4096) {t : Fin 8}
    (ht : IsFirst (fun s : Fin 8 => k0_pay4 v0 v1 v2 v7 v19 (ix2 r ⟨8 + s, by omega⟩)) t) :
    k0_pay8 (iota Kind.tc S4096x8 32 [1] iota_S4096x8_d1_w32) (k0_pay6 v0 v1 v2 v7 v19) k0_pay7 (ix2 r 0)
      = BitVec.ofNat 32 (t : Nat) := by
  pointwise [k0_pay8, k0_pay6, k0_pay7]
  rw [Cert.Proof.Spec.ofBits_bot_f32]
  exact Cert.Proof.Spec.fold_minsi_eq ht

/-- Of eight values selected in turn where the position is theirs, position `t` leaves the `t`-th. -/
theorem select_eq (E : Fin 8 → EReal) {e0 e1 e2 e3 e4 e5 e6 e7 : EReal} (z : EReal) (h0 : e0 = E 0) (h1 : e1 = E 1)
    (h2 : e2 = E 2) (h3 : e3 = E 3) (h4 : e4 = E 4) (h5 : e5 = E 5) (h6 : e6 = E 6) (h7 : e7 = E 7) (t : Fin 8) :
    Scalar.select (IntOp.cmpi .eq (BitVec.ofNat 32 (t : Nat)) 7#32) e7
      (Scalar.select (IntOp.cmpi .eq (BitVec.ofNat 32 (t : Nat)) 6#32) e6
        (Scalar.select (IntOp.cmpi .eq (BitVec.ofNat 32 (t : Nat)) 5#32) e5
          (Scalar.select (IntOp.cmpi .eq (BitVec.ofNat 32 (t : Nat)) 4#32) e4
            (Scalar.select (IntOp.cmpi .eq (BitVec.ofNat 32 (t : Nat)) 3#32) e3
              (Scalar.select (IntOp.cmpi .eq (BitVec.ofNat 32 (t : Nat)) 2#32) e2
                (Scalar.select (IntOp.cmpi .eq (BitVec.ofNat 32 (t : Nat)) 1#32) e1
                  (Scalar.select (IntOp.cmpi .eq (BitVec.ofNat 32 (t : Nat)) 0#32) e0 z))))))) = E t := by
  subst h0 h1 h2 h3 h4 h5 h6 h7
  fin_cases t <;> rfl

/-- Entry `(r, k)` of expert `s`'s rows, from the hidden rows side by side. -/
def expertAt (h : FVec Ideal S4096x1024 .bf16) (x6 : Vec Ideal S8x128x64 .bf16) (r : Fin 4096) (k : Fin 64)
    (s : Fin 8) : EReal :=
  ∑ j : Fin 128, h (ix2 r ⟨128 * s + j, by omega⟩) * x6 (ix3 s j k)

/-- The same with the first column of the expert's hidden row named. -/
theorem expertAt_eq (h : FVec Ideal S4096x1024 .bf16) (x6 : Vec Ideal S8x128x64 .bf16) (r : Fin 4096) (k : Fin 64)
    (s : Fin 8) (o : Nat) (ho : o = 128 * (s : Nat)) :
    ∑ j : Fin 128, h (ix2 r ⟨o + j, by omega⟩) * x6 (ix3 s j k) = expertAt h x6 r k s := by
  subst ho
  rfl

/-- The first expert's hidden row starts at column 0. -/
theorem expertAt_zero (h : FVec Ideal S4096x1024 .bf16) (x6 : Vec Ideal S8x128x64 .bf16) (r : Fin 4096) (k : Fin 64) :
    ∑ j : Fin 128, h (ix2 r ⟨j, by omega⟩) * x6 (ix3 0 j k) = expertAt h x6 r k 0 := by
  refine Finset.sum_congr rfl fun j _ => congrArg (fun q : Fin 1024 => h (ix2 r q) * x6 (ix3 0 j k)) (Fin.ext ?_)
  exact (Nat.zero_add _).symm

/-- The first output's block: the row of the expert at the first route. -/
theorem out7_apply (x0 x1 : Vec Ideal S4096x64 .f32) (x2 : Vec Ideal S4096x8 .f32) (x3 : Vec Ideal S136x128 .bf16)
    (x4 : Vec Ideal S128x16 .bf16) (x5 : Vec Ideal S128x1024 .bf16) (x6 : Vec Ideal S8x128x64 .bf16)
    (y : S4096x64.Idx) {t : Fin 8} (ht : k0_pay5 x0 x1 x2 x3 x4 (ix2 (y 0) 0) = BitVec.ofNat 32 (t : Nat)) :
    out0_7 x0 x1 x2 x3 x4 x5 x6 y = expertAt (k0_pay9 (k0_pay3 x0 x1 x2) x5) x6 (y 0) (y 1) t := by
  frame_out
  pointwise [k0_pay1, k0_pay10, k0_pay11, k0_pay13, k0_pay14, k0_pay15, k0_pay16, k0_pay17, k0_pay19, k0_pay20,
    k0_pay21, k0_pay22, k0_pay23, k0_pay25, k0_pay26, k0_pay28, k0_pay29, k0_pay33, k0_pay34, k0_pay35, k0_pay36]
  simp only [ld_rows, ld_pos, ld_first, ld_second, ld_third]
  rw [ht]
  exact select_eq (expertAt (k0_pay9 (k0_pay3 x0 x1 x2) x5) x6 (y 0) (y 1)) 0 (expertAt_zero _ _ _ _)
    (expertAt_eq _ _ _ _ 1 128 rfl) (expertAt_eq _ _ _ _ 2 256 rfl) (expertAt_eq _ _ _ _ 3 384 rfl)
    (expertAt_eq _ _ _ _ 4 512 rfl) (expertAt_eq _ _ _ _ 5 640 rfl) (expertAt_eq _ _ _ _ 6 768 rfl)
    (expertAt_eq _ _ _ _ 7 896 rfl) t

/-- The second output's block: the row of the expert at the second route. -/
theorem out8_apply (x0 x1 : Vec Ideal S4096x64 .f32) (x2 : Vec Ideal S4096x8 .f32) (x3 : Vec Ideal S136x128 .bf16)
    (x4 : Vec Ideal S128x16 .bf16) (x5 : Vec Ideal S128x1024 .bf16) (x6 : Vec Ideal S8x128x64 .bf16)
    (y : S4096x64.Idx) {t : Fin 8}
    (ht : k0_pay8 (iota Kind.tc S4096x8 32 [1] iota_S4096x8_d1_w32) (k0_pay6 x0 x1 x2 x3 x4) k0_pay7 (ix2 (y 0) 0)
      = BitVec.ofNat 32 (t : Nat)) :
    out0_8 x0 x1 x2 x3 x4 x5 x6 y = expertAt (k0_pay9 (k0_pay3 x0 x1 x2) x5) x6 (y 0) (y 1) t := by
  frame_out
  pointwise [k0_pay2, k0_pay10, k0_pay12, k0_pay13, k0_pay15, k0_pay16, k0_pay18, k0_pay19, k0_pay21, k0_pay22,
    k0_pay24, k0_pay25, k0_pay27, k0_pay28, k0_pay30, k0_pay31, k0_pay32, k0_pay33, k0_pay34, k0_pay35, k0_pay36]
  simp only [ld_rows, ld_pos, ld_first, ld_second, ld_third]
  rw [ht]
  exact select_eq (expertAt (k0_pay9 (k0_pay3 x0 x1 x2) x5) x6 (y 0) (y 1)) 0 (expertAt_zero _ _ _ _)
    (expertAt_eq _ _ _ _ 1 128 rfl) (expertAt_eq _ _ _ _ 2 256 rfl) (expertAt_eq _ _ _ _ 3 384 rfl)
    (expertAt_eq _ _ _ _ 4 512 rfl) (expertAt_eq _ _ _ _ 5 640 rfl) (expertAt_eq _ _ _ _ 6 768 rfl)
    (expertAt_eq _ _ _ _ 7 896 rfl) t

/-! ## With the weights prepared -/

/-- The four weight blocks hold the layer's weights as the kernel lays them out: the first router layer beside itself
    with the pair's rows exchanged, the second one twice on a diagonal, the experts' first layers side by side, and
    their second layers turned. -/
structure Prepared (x3 : Vec Ideal S136x128 .bf16) (x4 : Vec Ideal S128x16 .bf16) (x5 : Vec Ideal S128x1024 .bf16)
    (x6 : Vec Ideal S8x128x64 .bf16) (w1 : Fin 64 → Fin 136 → EReal) (w2 : Fin 8 → Fin 64 → EReal)
    (t1 : Fin 8 → Fin 128 → Fin 128 → EReal) (t2 : Fin 8 → Fin 64 → Fin 128 → EReal) : Prop where
  first (k : Fin 136) (j : Fin 64) : x3 (ix2 k ⟨j, by omega⟩) = w1 j k
  flipped (k : Fin 136) (j : Fin 64) : x3 (ix2 k ⟨64 + j, by omega⟩) = w1 j (Cert.Proof.Spec.swap k)
  upper (j : Fin 64) (t : Fin 8) : x4 (ix2 ⟨j, by omega⟩ ⟨t, by omega⟩) = w2 t j
  lower (j : Fin 64) (t : Fin 8) : x4 (ix2 ⟨64 + j, by omega⟩ ⟨8 + t, by omega⟩) = w2 t j
  right (j : Fin 64) (t : Fin 8) : x4 (ix2 ⟨j, by omega⟩ ⟨8 + t, by omega⟩) = 0
  left (j : Fin 64) (t : Fin 8) : x4 (ix2 ⟨64 + j, by omega⟩ ⟨t, by omega⟩) = 0
  third (i : Fin 128) (s : Fin 8) (j : Fin 128) : x5 (ix2 i ⟨128 * s + j, by omega⟩) = t1 s j i
  fourth (s : Fin 8) (j : Fin 128) (k : Fin 64) : x6 (ix3 s j k) = t2 s k j

section
variable {x3 : Vec Ideal S136x128 .bf16} {x4 : Vec Ideal S128x16 .bf16} {x5 : Vec Ideal S128x1024 .bf16}
  {x6 : Vec Ideal S8x128x64 .bf16} {w1 : Fin 64 → Fin 136 → EReal} {w2 : Fin 8 → Fin 64 → EReal}
  {t1 : Fin 8 → Fin 128 → Fin 128 → EReal} {t2 : Fin 8 → Fin 64 → Fin 128 → EReal}
  (hw : Prepared x3 x4 x5 x6 w1 w2 t1 t2) (x0 x1 : Vec Ideal S4096x64 .f32) (x2 : Vec Ideal S4096x8 .f32)
include hw

/-- The first eight scores are those of the pair. -/
theorem score_left (r : Fin 4096) (t : Fin 8) :
    k0_pay4 x0 x1 x2 x3 x4 (ix2 r ⟨t, by omega⟩) = score (row x0 r) (row x1 r) (row x2 r) w1 w2 t := by
  rw [scores_apply, Cert.Proof.Spec.sum_halves]
  simp only [hw.first, hw.upper, hw.left, mul_zero, Finset.sum_const_zero, add_zero]
  rfl

/-- The last eight scores are those of the flipped pair. -/
theorem score_right (r : Fin 4096) (t : Fin 8) :
    k0_pay4 x0 x1 x2 x3 x4 (ix2 r ⟨8 + t, by omega⟩) = score (row x1 r) (row x0 r) (row x2 r) w1 w2 t := by
  rw [scores_apply, Cert.Proof.Spec.sum_halves]
  simp only [hw.flipped, hw.lower, hw.right, mul_zero, Finset.sum_const_zero, zero_add,
    Cert.Proof.Spec.sum_swap]
  rfl

/-- An expert's entry. -/
theorem expert_eq (r : Fin 4096) (k : Fin 64) (s : Fin 8) :
    expertAt (k0_pay9 (k0_pay3 x0 x1 x2) x5) x6 r k s = expert (row x0 r) (row x1 r) t1 t2 s k := by
  unfold expertAt expert
  simp only [hidden_apply, hw.third, hw.fourth]

/-- The first output's block, in the layer's terms. -/
theorem block_left (y : S4096x64.Idx) {t : Fin 8}
    (ht : IsFirst (score (row x0 (y 0)) (row x1 (y 0)) (row x2 (y 0)) w1 w2) t) :
    out0_7 x0 x1 x2 x3 x4 x5 x6 y = expert (row x0 (y 0)) (row x1 (y 0)) t1 t2 t (y 1) := by
  refine (out7_apply x0 x1 x2 x3 x4 x5 x6 y (route_left x0 x1 x2 x3 x4 (y 0) ?_)).trans
    (expert_eq hw x0 x1 x2 (y 0) (y 1) t)
  exact (funext fun s => (score_left hw x0 x1 x2 (y 0) s).symm) ▸ ht

/-- The second output's block, in the layer's terms. -/
theorem block_right (y : S4096x64.Idx) {t : Fin 8}
    (ht : IsFirst (score (row x1 (y 0)) (row x0 (y 0)) (row x2 (y 0)) w1 w2) t) :
    out0_8 x0 x1 x2 x3 x4 x5 x6 y = expert (row x0 (y 0)) (row x1 (y 0)) t1 t2 t (y 1) := by
  refine (out8_apply x0 x1 x2 x3 x4 x5 x6 y (route_right x0 x1 x2 x3 x4 (y 0) ?_)).trans
    (expert_eq hw x0 x1 x2 (y 0) (y 1) t)
  exact (funext fun s => (score_right hw x0 x1 x2 (y 0) s).symm) ▸ ht

end

end Cert.KernelIdeal.Block

end
-- ==== Proof.Weights.lean ====
/- What the kernel's four weight operands hold when its grid starts: the layer's weights, laid out by the operations
   before it. -/
module

public import proofs.«01_k».proof.Proof.Block
public import Idealize.ShloMosaic.Lib.Claim

@[expose] public section

set_option maxRecDepth 16384

noncomputable section

namespace Cert.KernelIdeal.Weights

open Cert.KernelIdeal Cert.KernelIdeal.Gen Idealize.ShloMosaic Idealize.ShloMosaic.TcCoe Idealize.SL.Sem
open Cert.KernelIdeal.Block (Prepared)
open Cert.Proof.Spec (swap)

variable (m : (ℓ : Loc nD τ sig) → Buf (Elt Ideal) ℓ) (c : Dev nD)

/-- The first router layer's weights, by output and input. -/
def w1 (j : Fin 64) (k : Fin 136) : EReal := (m ((c : Thread nD τ).loc main_arg3) : FVec Ideal S64x136 .f32) (ix2 j k)
/-- The second router layer's weights, by expert and input. -/
def w2 (t : Fin 8) (j : Fin 64) : EReal := (m ((c : Thread nD τ).loc main_arg5) : FVec Ideal S8x64 .f32) (ix2 t j)
/-- The experts' first layers' weights, by expert, output and input. -/
def t1 (s : Fin 8) (j i : Fin 128) : EReal := (m ((c : Thread nD τ).loc main_arg7) : FVec Ideal S8x128x128 .f32) (ix3 s j i)
/-- The experts' second layers' weights, by expert, output and input. -/
def t2 (s : Fin 8) (k : Fin 64) (j : Fin 128) : EReal := (m ((c : Thread nD τ).loc main_arg9) : FVec Ideal S8x64x128 .f32) (ix3 s k j)

/-- The first router layer, turned, beside itself with the pair's rows exchanged. -/
def firstArr (X : FVec Ideal S64x136 .f32) : FVec Ideal S136x128 .bf16 :=
  let a : FVec Ideal S136x64 .bf16 := truncf .bf16 (transpose S136x64 [1, 0] X transposes_S64x136_S136x64_1_0) bitsLt_bf16_f32
  concatenate S136x128 1 [⟨S136x64, a⟩, ⟨S136x64, concatenate S136x64 0
    [⟨S64x64, extractStridedSlice S64x64 ![64, 0] a slices_S136x64_S64x64_64_0⟩,
      ⟨S64x64, extractStridedSlice S64x64 ![0, 0] a slices_S136x64_S64x64_0_0⟩,
      ⟨S8x64, extractStridedSlice S8x64 ![128, 0] a slices_S136x64_S8x64_128_0⟩]
    concatenates_S64x64_S64x64_S8x64_S136x64_d0⟩] concatenates_S136x64_S136x64_S136x128_d1

/-- The operations that prepare the first router layer. -/
def firstOps : List (HloOp τ sig (Elt Ideal)) := hostOps0.take 7
/-- The operations that prepare the others. -/
def restOps : List (HloOp τ sig (Elt Ideal)) := hostOps0.drop 7
/-- What the others write. -/
abbrev restRefs : List (Ref sig .tc) :=
  [main_v7, main_v8, main_cst, main_v9, main_v10, main_v11, main_v12, main_v13, main_v14, main_v15, main_v16, main_v17]

/-- The first weight operand, computed from the layer's. -/
theorem first_read : V m c main_v6 = firstArr (m ((c : Thread nD τ).loc main_arg3)) := by
  have h1 : V m c main_v6 = StableHlo.after restOps (StableHlo.after firstOps fun b => m (c, b)) (Proc.devRef .tc main_v6) := rfl
  have h2 := StableHlo.after_of_writes_sub (W := restRefs) restOps (StableHlo.after firstOps fun b => m (c, b))
    (r := main_v6) (StableHlo.forall_writes_sub_of_map rfl) (by decide)
  refine (h1.trans h2).trans ?_
  simp only [firstOps, hostOps0, List.take_succ_cons, List.take_zero]
  after_results_simp <;> rfl

/-- The first half of its columns. -/
theorem first_left (k : Fin 136) (j : Fin 64) :
    (V m c main_v6 : FVec Ideal S136x128 .bf16) (ix2 k ⟨j, by omega⟩) = w1 m c j k := by
  rw [first_read]
  pointwise [firstArr]
  rfl

/-- The second half of its columns. -/
theorem first_right (k : Fin 136) (j : Fin 64) :
    (V m c main_v6 : FVec Ideal S136x128 .bf16) (ix2 k ⟨64 + j, by omega⟩) = w1 m c j (swap k) := by
  have hs := Cert.Proof.Spec.swap_val k
  rw [first_read]
  pointwise [firstArr]
  have e (q : Fin 136) (h : (swap k).val = q.val) :
      (m ((c : Thread nD τ).loc main_arg3) : FVec Ideal S64x136 .f32) (ix2 j q) = w1 m c j (swap k) :=
    congrArg (w1 m c j) (Fin.ext h.symm)
  by_cases h1 : (k : Nat) < 64
  · rw [if_pos h1] at hs
    exact (dif_pos h1).trans (e _ hs)
  · rw [if_neg h1] at hs
    refine (dif_neg h1).trans ?_
    by_cases h2 : (k : Nat) - 64 < 64
    · rw [if_pos h2] at hs
      exact (dif_pos h2).trans (e _ hs)
    · rw [if_neg h2] at hs
      refine (dif_neg h2).trans (e _ (hs.trans ?_))
      show (k : Nat) = 128 + ((k : Nat) - 64 - 64)
      omega

/-- The second router layer, turned, twice on a diagonal. -/
def secondArr (X : FVec Ideal S8x64 .f32) : FVec Ideal S128x16 .bf16 :=
  let a : FVec Ideal S64x8 .bf16 := truncf .bf16 (transpose S64x8 [1, 0] X transposes_S8x64_S64x8_1_0) bitsLt_bf16_f32
  let z : FVec Ideal S64x8 .bf16 := broadcastInDim S64x8 ![] bcast_S_S64x8 (constant S_ .bf16 0x0000#16)
  concatenate S128x16 0 [⟨S64x16, concatenate S64x16 1 [⟨S64x8, a⟩, ⟨S64x8, z⟩] concatenates_S64x8_S64x8_S64x16_d1⟩,
    ⟨S64x16, concatenate S64x16 1 [⟨S64x8, z⟩, ⟨S64x8, a⟩] concatenates_S64x8_S64x8_S64x16_d1⟩]
    concatenates_S64x16_S64x16_S128x16_d0

/-- The second weight operand, computed from the layer's. -/
theorem second_eq : V m c main_v12 = secondArr (m ((c : Thread nD τ).loc main_arg5)) := by
  simp only [V, hostOps0]
  after_results_simp <;> rfl

/-- Its entries. -/
theorem second_read (p : Fin 128) (q : Fin 16) : (V m c main_v12 : FVec Ideal S128x16 .bf16) (ix2 p q)
    = if h : (p : Nat) < 64 then if g : (q : Nat) < 8 then w2 m c ⟨q, g⟩ ⟨p, h⟩ else 0
      else if g : (q : Nat) < 8 then 0 else w2 m c ⟨q - 8, by omega⟩ ⟨p - 64, by omega⟩ := by
  rw [second_eq]
  pointwise [secondArr]
  rfl

/-- The experts' first layers, side by side. -/
theorem third_read (i : Fin 128) (s : Fin 8) (j : Fin 128) :
    (V m c main_v15 : FVec Ideal S128x1024 .bf16) (ix2 i ⟨128 * s + j, by omega⟩) = t1 m c s j i := by
  entry_read
  pointwise
  refine congrArg₂ (fun a b => (m ((c : Thread nD τ).loc main_arg7) : FVec Ideal S8x128x128 .f32) (ix3 a b i))
    (Fin.ext ?_) (Fin.ext ?_)
  · show (128 * (s : Nat) + (j : Nat)) / 128 = (s : Nat)
    omega
  · show (128 * (s : Nat) + (j : Nat)) % 128 = (j : Nat)
    omega

/-- The experts' second layers, turned. -/
theorem fourth_read (s : Fin 8) (j : Fin 128) (k : Fin 64) :
    (V m c main_v17 : FVec Ideal S8x128x64 .bf16) (ix3 s j k) = t2 m c s k j := by
  entry_read
  pointwise
  rfl

/-- The four weight operands are prepared. -/
theorem prepared : Prepared (V m c main_v6) (V m c main_v12) (V m c main_v15) (V m c main_v17) (w1 m c) (w2 m c) (t1 m c)
    (t2 m c) where
  first := first_left m c
  flipped := first_right m c
  upper j t := by rw [second_read, dif_pos j.isLt, dif_pos t.isLt]
  lower j t := by
    rw [second_read, dif_neg (by simp), dif_neg (by simp)]
    exact congrArg₂ (w2 m c) (Fin.ext (Nat.add_sub_cancel_left ..)) (Fin.ext (Nat.add_sub_cancel_left ..))
  right j t := by rw [second_read, dif_pos j.isLt, dif_neg (by simp)]
  left j t := by rw [second_read, dif_neg (by simp), dif_pos t.isLt]
  third := third_read m c
  fourth := fourth_read m c

end Cert.KernelIdeal.Weights

end
-- ==== Proof.Array.lean ====
/- What the kernel's two result arrays hold after its run, row by row, and the run itself. -/
module

public import proofs.«01_k».proof.Proof.Weights

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)
open Cert.KernelIdeal.Block (row)
open Cert.KernelIdeal.Weights (w1 w2 t1 t2 prepared)
open Cert.Proof.Spec (score expert IsFirst exists_isFirst)

variable (m : (ℓ : Loc nD τ sig) → Buf (Elt Ideal) ℓ) (c : Dev nD)

/-- The first position of the greatest of eight scores. -/
def pick (l : Fin 8 → EReal) : Fin 8 := (exists_isFirst l).choose

/-- It is one. -/
theorem pick_isFirst (l : Fin 8 → EReal) : IsFirst l (pick l) := (exists_isFirst l).choose_spec

/-- The first rows. -/
abbrev arrA : FVec Ideal S32768x64 .f32 := m ((c : Thread nD τ).loc main_arg0)
/-- The second rows. -/
abbrev arrB : FVec Ideal S32768x64 .f32 := m ((c : Thread nD τ).loc main_arg1)
/-- The positions. -/
abbrev arrP : FVec Ideal S32768x8 .f32 := m ((c : Thread nD τ).loc main_arg2)

/-- The first result: each row's expert at the route of the pair. -/
def left : FVec Ideal S32768x64 .f32 := fun i =>
  expert (row (arrA m c) (i 0)) (row (arrB m c) (i 0)) (t1 m c) (t2 m c)
    (pick (score (row (arrA m c) (i 0)) (row (arrB m c) (i 0)) (row (arrP m c) (i 0)) (w1 m c) (w2 m c))) (i 1)

/-- The second result: each row's expert at the route of the flipped pair. -/
def right : FVec Ideal S32768x64 .f32 := fun i =>
  expert (row (arrA m c) (i 0)) (row (arrB m c) (i 0)) (t1 m c) (t2 m c)
    (pick (score (row (arrB m c) (i 0)) (row (arrA m c) (i 0)) (row (arrP m c) (i 0)) (w1 m c) (w2 m c))) (i 1)

/-- Where each operand's block lies: the rows' at the point, the weights' whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0]
    ∧ win0_7.index t = ![t.val, 0] ∧ win0_8.index t = ![t.val, 0] :=
  (by decide +kernel : ∀ t : Fin grid0.N, _)

/-- The first router layer's block is the operand whole. -/
theorem blk3 (t : Fin cfg0.N) : iblk m c 3 t = V m c main_v6 := by blk_ext! [iblk, idx t]
/-- So is the second router layer's. -/
theorem blk4 (t : Fin cfg0.N) : iblk m c 4 t = V m c main_v12 := by blk_ext! [iblk, idx t]
/-- So is the experts' first layer's. -/
theorem blk5 (t : Fin cfg0.N) : iblk m c 5 t = V m c main_v15 := by blk_ext! [iblk, idx t]
/-- So is the experts' second layer's. -/
theorem blk6 (t : Fin cfg0.N) : iblk m c 6 t = V m c main_v17 := by blk_ext! [iblk, idx t]

/-- A row of the first rows' block is the array's row where the result block's lies. -/
theorem rowA (t : Fin cfg0.N) (y : S4096x64.Idx) : row (show FVec Ideal S4096x64 .f32 from iblk m c 0 t) (y 0)
    = row (arrA m c) (((cfg0.win 7).blk t).view.emb y 0) := by
  funext k
  show (show FVec Ideal S4096x64 .f32 from iblk m c 0 t) (ix2 (y 0) k)
    = m ((c : Thread nD τ).loc main_arg0) (ix2 (((cfg0.win 7).blk t).view.emb y 0) k)
  blk_point [iblk, V, idx t]
/-- A row of the second rows' block. -/
theorem rowB (t : Fin cfg0.N) (y : S4096x64.Idx) : row (show FVec Ideal S4096x64 .f32 from iblk m c 1 t) (y 0)
    = row (arrB m c) (((cfg0.win 7).blk t).view.emb y 0) := by
  funext k
  show (show FVec Ideal S4096x64 .f32 from iblk m c 1 t) (ix2 (y 0) k)
    = m ((c : Thread nD τ).loc main_arg1) (ix2 (((cfg0.win 7).blk t).view.emb y 0) k)
  blk_point [iblk, V, idx t]
/-- A row of the positions' block. -/
theorem rowP (t : Fin cfg0.N) (y : S4096x64.Idx) : row (show FVec Ideal S4096x8 .f32 from iblk m c 2 t) (y 0)
    = row (arrP m c) (((cfg0.win 7).blk t).view.emb y 0) := by
  funext k
  show (show FVec Ideal S4096x8 .f32 from iblk m c 2 t) (ix2 (y 0) k)
    = m ((c : Thread nD τ).loc main_arg2) (ix2 (((cfg0.win 7).blk t).view.emb y 0) k)
  blk_point [iblk, V, idx t]

/-- The two results' blocks lie alike. -/
theorem emb8 (t : Fin cfg0.N) (y : S4096x64.Idx) :
    ((cfg0.win 8).blk t).view.emb y = ((cfg0.win 7).blk t).view.emb y := by
  blk_ext [idx t]
/-- A result's block spans all columns. -/
theorem emb_col (t : Fin cfg0.N) (y : S4096x64.Idx) : ((cfg0.win 7).blk t).view.emb y 1 = y 1 := by
  apply Fin.ext
  blk_simp [idx t]

/-- The first result array after the run. -/
theorem final_left : (dats m 0 c).arrAt 7 cfg0.N = left m c := by
  refine (dats m 0 c).arrAt_eq_of_covers 7 _ (by decide +kernel) fun t _ y => ?_
  blk_simp
  rw [after0_7, blk3, blk4, blk5, blk6]
  have ht := pick_isFirst (score (row (show FVec Ideal S4096x64 .f32 from iblk m c 0 t) (y 0))
    (row (show FVec Ideal S4096x64 .f32 from iblk m c 1 t) (y 0)) (row (show FVec Ideal S4096x8 .f32 from iblk m c 2 t) (y 0))
    (w1 m c) (w2 m c))
  refine (Block.block_left (prepared m c) (iblk m c 0 t) (iblk m c 1 t) (iblk m c 2 t) y ht).trans ?_
  rw [rowA, rowB, rowP]
  exact congrArg _ (emb_col t y).symm

/-- The second result array after the run. -/
theorem final_right : (dats m 0 c).arrAt 8 cfg0.N = right m c := by
  refine (dats m 0 c).arrAt_eq_of_covers 8 _ (by decide +kernel) fun t _ y => ?_
  blk_simp
  rw [after0_8, blk3, blk4, blk5, blk6]
  have ht := pick_isFirst (score (row (show FVec Ideal S4096x64 .f32 from iblk m c 1 t) (y 0))
    (row (show FVec Ideal S4096x64 .f32 from iblk m c 0 t) (y 0)) (row (show FVec Ideal S4096x8 .f32 from iblk m c 2 t) (y 0))
    (w1 m c) (w2 m c))
  refine (Block.block_right (prepared m c) (iblk m c 0 t) (iblk m c 1 t) (iblk m c 2 t) y ht).trans ?_
  rw [rowA, rowB, rowP]
  refine Eq.trans ?_ (congrArg (right m c) (emb8 t y).symm)
  exact congrArg _ (emb_col t y).symm

/-- The kernel's run: its results hold the two arrays above, and its arguments are kept. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v18_0) = left m c
      ∧ r.2.mem ((c.tc : Thread nD τ).loc main_v18_1) = right m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (θ_run_and (run_main m g) (unchanged m g))
  exact ⟨((h.1 c).1 7).trans (final_left m c), ((h.1 c).1 8).trans (final_right m c), h.2 c⟩

end Cert.KernelIdeal.Array

end
-- ==== Proof.Equation.lean ====
/- The reference's results are the kernel's: where the biases are zero, both leave each row's expert at its route. -/
module

public import proofs.«01_k».proof.Defs
public import proofs.«01_k».proof.Proof.Frames
public import proofs.«01_k».proof.Proof.RefValue
public import proofs.«01_k».proof.Proof.Array

@[expose] public section

set_option maxRecDepth 16384

noncomputable section

namespace Cert.Proof.Equation

open Idealize.ShloMosaic Idealize.ShloMosaic.TcCoe Idealize.SL.Sem
open Cert.ReferenceIdeal.Run (Arr pickArr expertArr routeArr res0 res1)
open Cert.ReferenceIdeal (S32768x64 S32768x8 S32768x8x64 S64x136 S64 S8x64 S8 S8x128x128 S8x128 S8x64x128)
open Cert.Proof.Spec (score expert IsFirst half)

/-- An array that compares equal to zero everywhere is zero everywhere. -/
theorem eq_zero_of_cmpf {s : Shape} (h : Cert.Pre_zero_biases.S_.BroadcastsInDim s (![] : Fin 0 → Fin s.rank))
    (x : FVec Ideal s .f32)
    (hx : cmpf .oeq x (broadcastInDim s ![] h (constant (F := Ideal) Cert.Pre_zero_biases.S_ .f32 0x00000000#32)) = fun _ => 1#1)
    (j : s.Idx) : x j = (0 : EReal) := by
  have hj := congrFun hx j
  have hz : Ideal.ofBits .f32 0x00000000#32 = 0 := by simp [Ideal.ofBits, Ideal.ieee]
  by_contra hne
  have h0 : Ideal.cmp .oeq (x j) (Ideal.ofBits .f32 0x00000000#32) = 1#1 := hj
  rw [hz] at h0
  simp [Ideal.cmp, hne] at h0

/-- A picked entry of the reference: the expert's row at the first greatest score of the row. -/
theorem pick_eq (a b u v : Arr Ideal S32768x64) (p : Arr Ideal S32768x8) (w1 : Arr Ideal S64x136) (b1 : Arr Ideal S64)
    (w2 : Arr Ideal S8x64) (b2 : Arr Ideal S8) (t1 : Arr Ideal S8x128x128) (c1 : Arr Ideal S8x128)
    (t2 : Arr Ideal S8x64x128) (c2 : Arr Ideal S8x64) (hb1 : ∀ j, b1 j = (0 : EReal)) (hb2 : ∀ j, b2 j = (0 : EReal))
    (hc1 : ∀ j, c1 j = (0 : EReal)) (hc2 : ∀ j, c2 j = (0 : EReal)) (i : S32768x64.Idx) {t : Fin 8}
    (ht : IsFirst (score (fun k => u (ix2 (i 0) k)) (fun k => v (ix2 (i 0) k)) (fun k => p (ix2 (i 0) k))
      (fun j k => w1 (ix2 j k)) (fun t j => w2 (ix2 t j))) t) :
    pickArr (expertArr a b t1 c1 t2 c2) (routeArr u v p w1 b1 w2 b2) i
      = expert (fun k => a (ix2 (i 0) k)) (fun k => b (ix2 (i 0) k)) (fun t j k => t1 (ix3 t j k))
          (fun t k j => t2 (ix3 t k j)) t (i 1) := by
  refine (Cert.ReferenceIdeal.Value.pickArr_apply _ _ i (t := t) ?_).trans
    (Cert.ReferenceIdeal.Value.expertArr_apply a b t1 c1 t2 c2 hc1 hc2 (ix3 (i 0) t (i 1)))
  have e : (fun s : Fin 8 => routeArr u v p w1 b1 w2 b2 (ix2 (i 0) s)) = fun s => Ideal.div (score (fun k => u (ix2 (i 0) k))
      (fun k => v (ix2 (i 0) k)) (fun k => p (ix2 (i 0) k)) (fun j k => w1 (ix2 j k)) (fun t j => w2 (ix2 t j)) s) half :=
    funext fun s => Cert.ReferenceIdeal.Value.routeArr_apply u v p w1 b1 w2 b2 hb1 hb2 (ix2 (i 0) s)
  exact e.symm ▸ ht.div_half

section

/-- The two programs start from the same arguments. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
    m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0) ∧
    m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1) ∧
    m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2) ∧
    m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3) ∧
    m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4) ∧
    m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5) ∧
    m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6) ∧
    m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7) ∧
    m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8) ∧
    m' ((c.tc : Thread Cert.ReferenceIdeal.nD Cert.ReferenceIdeal.τ).loc Cert.ReferenceIdeal.main_arg9)
        = m ((c.tc : Thread Cert.KernelIdeal.nD Cert.KernelIdeal.τ).loc Cert.KernelIdeal.main_arg9) ∧
    m' ((c.tc : Thread Cert.ReferenceIdeal.nD Cert.ReferenceIdeal.τ).loc Cert.ReferenceIdeal.main_arg10)
        = m ((c.tc : Thread Cert.KernelIdeal.nD Cert.KernelIdeal.τ).loc Cert.KernelIdeal.main_arg10)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

section
open Cert.KernelIdeal

/-- The reference's experts, of the kernel's arguments. -/
def experts : Arr Ideal S32768x8x64 :=
  expertArr (m ((c.tc : Thread nD τ).loc main_arg0)) (m ((c.tc : Thread nD τ).loc main_arg1))
    (m ((c.tc : Thread nD τ).loc main_arg7)) (m ((c.tc : Thread nD τ).loc main_arg8))
    (m ((c.tc : Thread nD τ).loc main_arg9)) (m ((c.tc : Thread nD τ).loc main_arg10))
/-- The reference's scores of the pair `(u, v)`, of the kernel's arguments. -/
def scores (u v : Arr Ideal Cert.ReferenceIdeal.S32768x64) : Arr Ideal Cert.ReferenceIdeal.S32768x8 :=
  routeArr u v (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

end

/-- The reference's first result, read of the kernel's arguments. -/
theorem res0_read (h : Agree m m' c) : res0 (F := Ideal) m' c
    = pickArr (experts m c) (scores m c (Cert.KernelIdeal.Array.arrA m c) (Cert.KernelIdeal.Array.arrB m c)) := by
  obtain ⟨e0, e1, e2, e3, e4, e5, e6, e7, e8, e9, e10⟩ := h
  unfold res0 experts scores Cert.KernelIdeal.Array.arrA Cert.KernelIdeal.Array.arrB
  rw [← e2, ← e3, ← e4, ← e5, ← e6, ← e7, ← e8, ← e9, ← e10, ← e0, ← e1]

/-- The second result, likewise. -/
theorem res1_read (h : Agree m m' c) : res1 (F := Ideal) m' c
    = pickArr (experts m c) (scores m c (Cert.KernelIdeal.Array.arrB m c) (Cert.KernelIdeal.Array.arrA m c)) := by
  obtain ⟨e0, e1, e2, e3, e4, e5, e6, e7, e8, e9, e10⟩ := h
  unfold res1 experts scores Cert.KernelIdeal.Array.arrA Cert.KernelIdeal.Array.arrB
  rw [← e2, ← e3, ← e4, ← e5, ← e6, ← e7, ← e8, ← e9, ← e10, ← e0, ← e1]

/-- The first result is the kernel's. -/
theorem res0_eq (hpre : Cert.Pre_KernelIdeal_zero_biases m) (h : Agree m m' c) :
    res0 (F := Ideal) m' c = Cert.KernelIdeal.Array.left m c := by
  obtain ⟨h4, h6, h8, h10⟩ := hpre c
  rw [res0_read m m' c h]
  funext i
  exact pick_eq _ _ _ _ _ _ _ _ _ _ _ _ _ (eq_zero_of_cmpf _ _ h4) (eq_zero_of_cmpf _ _ h6) (eq_zero_of_cmpf _ _ h8)
    (eq_zero_of_cmpf _ _ h10) i (Cert.KernelIdeal.Array.pick_isFirst _)

/-- The second result is the kernel's. -/
theorem res1_eq (hpre : Cert.Pre_KernelIdeal_zero_biases m) (h : Agree m m' c) :
    res1 (F := Ideal) m' c = Cert.KernelIdeal.Array.right m c := by
  obtain ⟨h4, h6, h8, h10⟩ := hpre c
  rw [res1_read m m' c h]
  funext i
  exact pick_eq _ _ _ _ _ _ _ _ _ _ _ _ _ (eq_zero_of_cmpf _ _ h4) (eq_zero_of_cmpf _ _ h6) (eq_zero_of_cmpf _ _ h8)
    (eq_zero_of_cmpf _ _ h10) i (Cert.KernelIdeal.Array.pick_isFirst _)

end

/-- The idealized kernel and the idealized reference end with equal results, where the biases are zero. -/
theorem algebraic : Cert.algebraic_KernelIdeal_ReferenceIdeal_pre_zero_biases := fun m g m' g' hpre hagree =>
  ⟨Cert.KernelIdeal.Array.left m, Cert.KernelIdeal.Array.right m, Cert.KernelIdeal.Array.run m g,
    (θ_run Cert.ReferenceIdeal.defs _ _).mono
      (fun _ h c => ⟨(h c).1.trans (res0_eq m m' c hpre (hagree c)), (h c).2.1.trans (res1_eq m m' c hpre (hagree c)),
        (h c).2.2⟩)
      (Cert.ReferenceIdeal.Run.run (F := Ideal) m' g')⟩

end Cert.Proof.Equation

end
-- ==== Proof.lean ====
module

public import proofs.«01_k».proof.Defs
public import proofs.«01_k».proof.Proof.Frames
public import proofs.«01_k».proof.Proof.Equation

@[expose] public section

noncomputable section

namespace Cert.Proof

open Idealize.ShloMosaic Idealize.SL.Sem

/-- The five claims: three frames (two also where the biases are zero), preserves and algebraic. -/
theorem claim : Cert.Claim :=
  ⟨Cert.Kernel.Gen.facts, Cert.KernelIdeal.Gen.facts, Cert.ReferenceIdeal.Gen.facts, Frames.pre_facts,
    Frames.kernel, Frames.kernelIdeal, Frames.kernelIdeal_pre, Frames.reference, Frames.reference_pre, Frames.preserves,
    Equation.algebraic⟩

end Cert.Proof

end
